-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S20000x4 : Shape := ⟨2, ![20000, 4]⟩
abbrev S20000 : Shape := ⟨1, ![20000]⟩
abbrev S128 : Shape := ⟨1, ![128]⟩
abbrev S20000x1 : Shape := ⟨2, ![20000, 1]⟩
abbrev S_ : Shape := ⟨0, ![]⟩
abbrev S20000x123 : Shape := ⟨2, ![20000, 123]⟩
abbrev S20000x128 : Shape := ⟨2, ![20000, 128]⟩
abbrev S480x128 : Shape := ⟨2, ![480, 128]⟩
abbrev S20480x128 : Shape := ⟨2, ![20480, 128]⟩
abbrev S480 : Shape := ⟨1, ![480]⟩
abbrev S20480 : Shape := ⟨1, ![20480]⟩
abbrev S640 : Shape := ⟨1, ![640]⟩
abbrev S640x128 : Shape := ⟨2, ![640, 128]⟩
abbrev S20480x1 : Shape := ⟨2, ![20480, 1]⟩
abbrev S8x2560 : Shape := ⟨2, ![8, 2560]⟩
abbrev S2560x2560 : Shape := ⟨2, ![2560, 2560]⟩
abbrev S1x2560 : Shape := ⟨2, ![1, 2560]⟩
abbrev S2560 : Shape := ⟨1, ![2560]⟩
abbrev S2560x1 : Shape := ⟨2, ![2560, 1]⟩
abbrev S1x1x2560 : Shape := ⟨3, ![1, 1, 2560]⟩
abbrev S1 : Shape := ⟨1, ![1]⟩
abbrev S1x1x1 : Shape := ⟨3, ![1, 1, 1]⟩
abbrev S20480x127 : Shape := ⟨2, ![20480, 127]⟩

abbrev nBuf : Table → Nat
  | .hbm => 43
  | .local .tc .vmem => 8
  | .local .scVector .vmem => 4
  | _ => 0

abbrev bufTy : (tb : Table) → Fin (nBuf tb) → BufTy
  | .hbm, ⟨0, _⟩ => ⟨S20000x4, .f32⟩
  | .hbm, ⟨1, _⟩ => ⟨S20000, .f32⟩
  | .hbm, ⟨2, _⟩ => ⟨S128, .f32⟩
  | .hbm, ⟨3, _⟩ => ⟨S20000, .f32⟩
  | .hbm, ⟨4, _⟩ => ⟨S20000, .i32⟩
  | .hbm, ⟨5, _⟩ => ⟨S20000, .f32⟩
  | .hbm, ⟨6, _⟩ => ⟨S20000, .i32⟩
  | .hbm, ⟨7, _⟩ => ⟨S20000x1, .f32⟩
  | .hbm, ⟨8, _⟩ => ⟨S_, .f32⟩
  | .hbm, ⟨9, _⟩ => ⟨S20000x123, .f32⟩
  | .hbm, ⟨10, _⟩ => ⟨S20000x128, .f32⟩
  | .hbm, ⟨11, _⟩ => ⟨S480x128, .f32⟩
  | .hbm, ⟨12, _⟩ => ⟨S20480x128, .f32⟩
  | .hbm, ⟨13, _⟩ => ⟨S480, .i32⟩
  | .hbm, ⟨14, _⟩ => ⟨S_, .i32⟩
  | .hbm, ⟨15, _⟩ => ⟨S480, .i32⟩
  | .hbm, ⟨16, _⟩ => ⟨S480, .i32⟩
  | .hbm, ⟨17, _⟩ => ⟨S20480, .i32⟩
  | .hbm, ⟨18, _⟩ => ⟨S20480x128, .f32⟩
  | .hbm, ⟨19, _⟩ => ⟨S20480x1, .f32⟩
  | .hbm, ⟨20, _⟩ => ⟨S20480, .f32⟩
  | .hbm, ⟨21, _⟩ => ⟨S8x2560, .f32⟩
  | .hbm, ⟨22, _⟩ => ⟨S20480x1, .f32⟩
  | .hbm, ⟨23, _⟩ => ⟨S20480, .f32⟩
  | .hbm, ⟨24, _⟩ => ⟨S8x2560, .f32⟩
  | .hbm, ⟨25, _⟩ => ⟨S20480x1, .f32⟩
  | .hbm, ⟨26, _⟩ => ⟨S20480, .f32⟩
  | .hbm, ⟨27, _⟩ => ⟨S8x2560, .f32⟩
  | .hbm, ⟨28, _⟩ => ⟨S20480x1, .f32⟩
  | .hbm, ⟨29, _⟩ => ⟨S20480, .f32⟩
  | .hbm, ⟨30, _⟩ => ⟨S8x2560, .f32⟩
  | .hbm, ⟨31, _⟩ => ⟨S20480x1, .f32⟩
  | .hbm, ⟨32, _⟩ => ⟨S20480, .f32⟩
  | .hbm, ⟨33, _⟩ => ⟨S8x2560, .f32⟩
  | .hbm, ⟨34, _⟩ => ⟨S8x2560, .f32⟩
  | .hbm, ⟨35, _⟩ => ⟨S20480, .f32⟩
  | .hbm, ⟨36, _⟩ => ⟨S20480x1, .f32⟩
  | .hbm, ⟨37, _⟩ => ⟨S_, .f32⟩
  | .hbm, ⟨38, _⟩ => ⟨S20480x127, .f32⟩
  | .hbm, ⟨39, _⟩ => ⟨S20480x128, .f32⟩
  | .hbm, ⟨40, _⟩ => ⟨S20480x128, .f32⟩
  | .hbm, ⟨41, _⟩ => ⟨S20000x1, .f32⟩
  | .hbm, ⟨42, _⟩ => ⟨S20000, .f32⟩
  | .local .tc .vmem, ⟨0, _⟩ => ⟨S8x2560, .f32⟩
  | .local .tc .vmem, ⟨1, _⟩ => ⟨S8x2560, .f32⟩
  | .local .tc .vmem, ⟨2, _⟩ => ⟨S8x2560, .f32⟩
  | .local .tc .vmem, ⟨3, _⟩ => ⟨S8x2560, .f32⟩
  | .local .tc .vmem, ⟨4, _⟩ => ⟨S8x2560, .f32⟩
  | .local .tc .vmem, ⟨5, _⟩ => ⟨S8x2560, .f32⟩
  | .local .tc .vmem, ⟨6, _⟩ => ⟨S8x2560, .f32⟩
  | .local .tc .vmem, ⟨7, _⟩ => ⟨S2560x2560, .f32⟩
  | .local .scVector .vmem, ⟨0, _⟩ => ⟨S640, .i32⟩
  | .local .scVector .vmem, ⟨1, _⟩ => ⟨S640x128, .f32⟩
  | .local .scVector .vmem, ⟨2, _⟩ => ⟨S640, .i32⟩
  | .local .scVector .vmem, ⟨3, _⟩ => ⟨S640x128, .f32⟩
  | _, _ => ⟨S20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v6_scv : Ref sig .scVector := ⟨.hbm, 12, rfl⟩
abbrev main_v10_scv : Ref sig .scVector := ⟨.hbm, 17, rfl⟩
abbrev main_v11_scv : Ref sig .scVector := ⟨.hbm, 18, rfl⟩
abbrev main_v31_scv : Ref sig .scVector := ⟨.hbm, 39, rfl⟩
abbrev main_v32_scv : Ref sig .scVector := ⟨.hbm, 40, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_scratch0 : Ref sig .tc := ⟨.vmem, 6, rfl⟩
abbrev cc1_scratch1 : Ref sig .tc := ⟨.vmem, 7, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_3_r1 : BitVec 32 := 0#32
  ![v2.toNat, 0]
abbrev grid1 : Pipeline.Grid := .none

@[reducible] def k1_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let v6 : Index := Scalar.indexCast arg8
  let c0 : Index := 0#32
  ![v6.toNat, 0]
@[reducible] def k1_t2_loop (k1_t1 : Fin k1_t1_loop.trips) : Scf.Loop 32 :=
  let c0_i32_6 : BitVec 32 := 0#32
  let c0_i32 : BitVec 32 := 0#32
  let c1_i32 : BitVec 32 := 1#32
  let arg8 : BitVec 32 := Scf.iv c0_i32 c1_i32 k1_t1
  let v26 : BitVec 32 := Scalar.subi arg8 c0_i32_6
  let c1_i32_7 : BitVec 32 := 1#32
  let v28 : BitVec 32 := Scalar.divsi v26 c1_i32_7
  let v29 : BitVec 32 := Scalar.muli v28 c1_i32_7
  let v30 : BitVec 32 := Scalar.addi c0_i32_6 v29
  let c1_i32_8 : BitVec 32 := 1#32
  ⟨c0_i32_6, v30, c1_i32_8⟩
def k1_off2 (k1_t1 : Fin k1_t1_loop.trips) (k1_t2 : Fin (k1_t2_loop k1_t1).trips) : Fin 2 → Nat :=
  let c0_i32_6 : BitVec 32 := 0#32
  let c1_i32_8 : BitVec 32 := 1#32
  let arg9 : BitVec 32 := Scf.iv c0_i32_6 c1_i32_8 k1_t2
  let v108 : Index := Scalar.indexCast arg9
  let c0_26 : Index := 0#32
  ![v108.toNat, 0]
@[reducible] def k1_t3_loop (k1_t1 : Fin k1_t1_loop.trips) : Scf.Loop 32 :=
  let c0_i32_6 : BitVec 32 := 0#32
  let c0_i32 : BitVec 32 := 0#32
  let c1_i32 : BitVec 32 := 1#32
  let arg8 : BitVec 32 := Scf.iv c0_i32 c1_i32 k1_t1
  let v26 : BitVec 32 := Scalar.subi arg8 c0_i32_6
  let c1_i32_7 : BitVec 32 := 1#32
  let v28 : BitVec 32 := Scalar.divsi v26 c1_i32_7
  let v29 : BitVec 32 := Scalar.muli v28 c1_i32_7
  let v30 : BitVec 32 := Scalar.addi c0_i32_6 v29
  let v27 : BitVec 32 := Scalar.addi c0_i32_6 v26
  let c1_i32_9 : BitVec 32 := 1#32
  ⟨v30, v27, c1_i32_9⟩
def k1_off3 (k1_t1 : Fin k1_t1_loop.trips) (k1_t3 : Fin (k1_t3_loop k1_t1).trips) : Fin 2 → Nat :=
  let c0_i32_6 : BitVec 32 := 0#32
  let c0_i32 : BitVec 32 := 0#32
  let c1_i32 : BitVec 32 := 1#32
  let arg8 : BitVec 32 := Scf.iv c0_i32 c1_i32 k1_t1
  let v26 : BitVec 32 := Scalar.subi arg8 c0_i32_6
  let c1_i32_7 : BitVec 32 := 1#32
  let v28 : BitVec 32 := Scalar.divsi v26 c1_i32_7
  let v29 : BitVec 32 := Scalar.muli v28 c1_i32_7
  let v30 : BitVec 32 := Scalar.addi c0_i32_6 v29
  let c1_i32_9 : BitVec 32 := 1#32
  let arg9 : BitVec 32 := Scf.iv v30 c1_i32_9 k1_t3
  let v108 : Index := Scalar.indexCast arg9
  let c0_26 : Index := 0#32
  ![v108.toNat, 0]
abbrev stage1_0 : Fin 1 → Memref sig .tc .vmem S8x2560 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2560 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2560 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x2560 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x2560 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x2560 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_3_r1 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1x1 : Shape := ⟨2, ![1, 1]⟩
abbrev S1 : Shape := ⟨1, ![1]⟩

abbrev nBuf : Space → Nat
  | .hbm => 193
  | .vmem => 0
  | .smem => 0
  | _ => 0

abbrev hbmTy0_0 (i : Nat) : BufTy := match i % 128 with
  | 0 => ⟨S20000x4, .f32⟩
  | 1 => ⟨S20000, .f32⟩
  | 2 => ⟨S20000, .f32⟩
  | 3 => ⟨S20000, .i32⟩
  | 4 => ⟨S20000, .f32⟩
  | 5 => ⟨S20000, .i32⟩
  | 6 => ⟨S_, .i32⟩
  | 7 => ⟨S20000, .i32⟩
  | 8 => ⟨S20000, .i1⟩
  | 9 => ⟨S_, .i32⟩
  | 10 => ⟨S20000, .i32⟩
  | 11 => ⟨S20000, .i32⟩
  | 12 => ⟨S20000, .i32⟩
  | 13 => ⟨S20000x1, .i32⟩
  | 14 => ⟨S20000x4, .f32⟩
  | 15 => ⟨S20000x1, .f32⟩
  | 16 => ⟨S20000, .f32⟩
  | 17 => ⟨S20000x1, .f32⟩
  | 18 => ⟨S20000, .f32⟩
  | 19 => ⟨S20000, .f32⟩
  | 20 => ⟨S_, .f32⟩
  | 21 => ⟨S20000, .f32⟩
  | 22 => ⟨S20000, .f32⟩
  | 23 => ⟨S20000x1, .f32⟩
  | 24 => ⟨S20000, .f32⟩
  | 25 => ⟨S20000x1, .f32⟩
  | 26 => ⟨S20000, .f32⟩
  | 27 => ⟨S20000, .f32⟩
  | 28 => ⟨S_, .f32⟩
  | 29 => ⟨S20000, .f32⟩
  | 30 => ⟨S20000, .f32⟩
  | 31 => ⟨S20000, .f32⟩
  | 32 => ⟨S20000, .i32⟩
  | 33 => ⟨S_, .i1⟩
  | 34 => ⟨S20000, .i1⟩
  | 35 => ⟨S_, .i32⟩
  | 36 => ⟨S_, .i32⟩
  | 37 => ⟨S20000x4, .f32⟩
  | 38 => ⟨S20000, .f32⟩
  | 39 => ⟨S20000, .i32⟩
  | 40 => ⟨S_, .i32⟩
  | 41 => ⟨S_, .i32⟩
  | 42 => ⟨S20000, .i1⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x1, .f32⟩
  | 62 => ⟨S_, .f32⟩
  | 63 => ⟨S20000x1, .f32⟩
  | 64 => ⟨S20000, .f32⟩
  | 65 => ⟨S20000, .f32⟩
  | 66 => ⟨S20000, .f32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x1, .f32⟩
  | 82 => ⟨S_, .f32⟩
  | 83 => ⟨S20000x1, .f32⟩
  | 84 => ⟨S20000, .f32⟩
  | 85 => ⟨S20000, .f32⟩
  | 86 => ⟨S20000, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x1, .f32⟩
  | 102 => ⟨S_, .f32⟩
  | 103 => ⟨S20000x1, .f32⟩
  | 104 => ⟨S20000, .f32⟩
  | 105 => ⟨S20000, .f32⟩
  | 106 => ⟨S20000, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x1, .f32⟩
  | 122 => ⟨S_, .f32⟩
  | 123 => ⟨S20000x1, .f32⟩
  | 124 => ⟨S20000, .f32⟩
  | 125 => ⟨S20000, .f32⟩
  | 126 => ⟨S20000, .f32⟩
  | 127 => ⟨S20000, .f32⟩
  | _ => ⟨S20000x4, .f32⟩

abbrev hbmTy0_1 (i : Nat) : BufTy := match i % 128 with
  | 0 => ⟨S_, .f32⟩
  | 1 => ⟨S20000, .f32⟩
  | 2 => ⟨S20000, .f32⟩
  | 3 => ⟨S_, .f32⟩
  | 4 => ⟨S20000, .f32⟩
  | 5 => ⟨S20000, .f32⟩
  | 6 => ⟨S20000, .f32⟩
  | 7 => ⟨S_, .f32⟩
  | 8 => ⟨S20000, .f32⟩
  | 9 => ⟨S20000, .f32⟩
  | 10 => ⟨S_, .f32⟩
  | 11 => ⟨S20000, .f32⟩
  | 12 => ⟨S20000, .f32⟩
  | 13 => ⟨S20000, .f32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S1, .f32⟩
  | 21 => ⟨S_, .f32⟩
  | 22 => ⟨S20000, .f32⟩
  | 23 => ⟨S20000, .f32⟩
  | 24 => ⟨S20000, .f32⟩
  | 25 => ⟨S20000, .f32⟩
  | 26 => ⟨S_, .f32⟩
  | 27 => ⟨S20000, .f32⟩
  | 28 => ⟨S20000, .i1⟩
  | 29 => ⟨S_, .i32⟩
  | 30 => ⟨S20000, .i32⟩
  | 31 => ⟨S20000, .i1⟩
  | 32 => ⟨S20000, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1, .i1⟩
  | 40 => ⟨S_, .i1⟩
  | 41 => ⟨S20000, .i1⟩
  | 42 => ⟨S20000, .i1⟩
  | 43 => ⟨S20000, .i1⟩
  | 44 => ⟨S20000, .i1⟩
  | 45 => ⟨S_, .i32⟩
  | 46 => ⟨S_, .i32⟩
  | 47 => ⟨S_, .i1⟩
  | 48 => ⟨S20000, .i1⟩
  | 49 => ⟨S_, .i32⟩
  | 50 => ⟨S20000, .i32⟩
  | 51 => ⟨S20000, .i1⟩
  | 52 => ⟨S_, .i32⟩
  | 53 => ⟨S20000, .i32⟩
  | 54 => ⟨S20000, .i32⟩
  | 55 => ⟨S20000, .i32⟩
  | 56 => ⟨S20000x1, .i32⟩
  | 57 => ⟨S20000, .i1⟩
  | 58 => ⟨S_, .f32⟩
  | 59 => ⟨S_, .f32⟩
  | 60 => ⟨S20000, .f32⟩
  | 61 => ⟨S20000, .f32⟩
  | 62 => ⟨S20000, .f32⟩
  | 63 => ⟨S20000, .f32⟩
  | 64 => ⟨S20000, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_c_3 : Ref sig .tc := ⟨.hbm, 35, rfl⟩
abbrev main_c_4 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev main_v26_5 : Ref sig .tc := ⟨.hbm, 42, rfl⟩
abbrev main_while0c_c_15 : Ref sig .tc := ⟨.hbm, 43, rfl⟩
abbrev main_while0c_v38 : Ref sig .tc := ⟨.hbm, 44, rfl⟩
abbrev main_while0b_c_15 : Ref sig .tc := ⟨.hbm, 45, rfl⟩
abbrev main_while0b_v38 : Ref sig .tc := ⟨.hbm, 46, rfl⟩
abbrev main_while0b_v39 : Ref sig .tc := ⟨.hbm, 47, rfl⟩
abbrev main_while0b_c_16 : Ref sig .tc := ⟨.hbm, 48, rfl⟩
abbrev main_while0b_v40 : Ref sig .tc := ⟨.hbm, 49, rfl⟩
abbrev main_while0b_c_17 : Ref sig .tc := ⟨.hbm, 50, rfl⟩
abbrev main_while0b_v41 : Ref sig .tc := ⟨.hbm, 51, rfl⟩
abbrev main_while0b_v42 : Ref sig .tc := ⟨.hbm, 52, rfl⟩
abbrev main_while0b_c_18 : Ref sig .tc := ⟨.hbm, 53, rfl⟩
abbrev main_while0b_c_19 : Ref sig .tc := ⟨.hbm, 54, rfl⟩
abbrev main_while0b_v43 : Ref sig .tc := ⟨.hbm, 55, rfl⟩
abbrev main_while0b_c_20 : Ref sig .tc := ⟨.hbm, 56, rfl⟩
abbrev main_while0b_c_21 : Ref sig .tc := ⟨.hbm, 57, rfl⟩
abbrev main_while0b_v44 : Ref sig .tc := ⟨.hbm, 58, rfl⟩
abbrev main_while0b_c_22 : Ref sig .tc := ⟨.hbm, 59, rfl⟩
abbrev main_while0b_v45 : Ref sig .tc := ⟨.hbm, 60, rfl⟩
abbrev main_while0b_v46 : Ref sig .tc := ⟨.hbm, 61, rfl⟩
abbrev main_while0b_v47 : Ref sig .tc := ⟨.hbm, 62, rfl⟩
abbrev main_while0b_v48 : Ref sig .tc := ⟨.hbm, 63, rfl⟩
abbrev main_while0b_v49 : Ref sig .tc := ⟨.hbm, 64, rfl⟩
abbrev main_while0b_v50 : Ref sig .tc := ⟨.hbm, 65, rfl⟩
abbrev main_while0b_v51 : Ref sig .tc := ⟨.hbm, 66, rfl⟩
abbrev main_while0b_v52 : Ref sig .tc := ⟨.hbm, 67, rfl⟩
abbrev main_while0b_c_23 : Ref sig .tc := ⟨.hbm, 68, rfl⟩
abbrev main_while0b_v53 : Ref sig .tc := ⟨.hbm, 69, rfl⟩
abbrev main_while0b_c_24 : Ref sig .tc := ⟨.hbm, 70, rfl⟩
abbrev main_while0b_v54 : Ref sig .tc := ⟨.hbm, 71, rfl⟩
abbrev main_while0b_v55 : Ref sig .tc := ⟨.hbm, 72, rfl⟩
abbrev main_while0b_c_25 : Ref sig .tc := ⟨.hbm, 73, rfl⟩
abbrev main_while0b_c_26 : Ref sig .tc := ⟨.hbm, 74, rfl⟩
abbrev main_while0b_v56 : Ref sig .tc := ⟨.hbm, 75, rfl⟩
abbrev main_while0b_c_27 : Ref sig .tc := ⟨.hbm, 76, rfl⟩
abbrev main_while0b_c_28 : Ref sig .tc := ⟨.hbm, 77, rfl⟩
abbrev main_while0b_v57 : Ref sig .tc := ⟨.hbm, 78, rfl⟩
abbrev main_while0b_c_29 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_v61 : Ref sig .tc := ⟨.hbm, 83, rfl⟩
abbrev main_while0b_v62 : Ref sig .tc := ⟨.hbm, 84, rfl⟩
abbrev main_while0b_v63 : Ref sig .tc := ⟨.hbm, 85, rfl⟩
abbrev main_while0b_v64 : Ref sig .tc := ⟨.hbm, 86, rfl⟩
abbrev main_while0b_v65 : Ref sig .tc := ⟨.hbm, 87, rfl⟩
abbrev main_while0b_c_30 : Ref sig .tc := ⟨.hbm, 88, rfl⟩
abbrev main_while0b_v66 : Ref sig .tc := ⟨.hbm, 89, rfl⟩
abbrev main_while0b_c_31 : Ref sig .tc := ⟨.hbm, 90, rfl⟩
abbrev main_while0b_v67 : Ref sig .tc := ⟨.hbm, 91, rfl⟩
abbrev main_while0b_v68 : Ref sig .tc := ⟨.hbm, 92, rfl⟩
abbrev main_while0b_c_32 : Ref sig .tc := ⟨.hbm, 93, rfl⟩
abbrev main_while0b_c_33 : Ref sig .tc := ⟨.hbm, 94, rfl⟩
abbrev main_while0b_v69 : Ref sig .tc := ⟨.hbm, 95, rfl⟩
abbrev main_while0b_c_34 : Ref sig .tc := ⟨.hbm, 96, rfl⟩
abbrev main_while0b_c_35 : Ref sig .tc := ⟨.hbm, 97, rfl⟩
abbrev main_while0b_v70 : Ref sig .tc := ⟨.hbm, 98, rfl⟩
abbrev main_while0b_c_36 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_v75 : Ref sig .tc := ⟨.hbm, 104, rfl⟩
abbrev main_while0b_v76 : Ref sig .tc := ⟨.hbm, 105, rfl⟩
abbrev main_while0b_v77 : Ref sig .tc := ⟨.hbm, 106, rfl⟩
abbrev main_while0b_v78 : Ref sig .tc := ⟨.hbm, 107, rfl⟩
abbrev main_while0b_c_37 : Ref sig .tc := ⟨.hbm, 108, rfl⟩
abbrev main_while0b_v79 : Ref sig .tc := ⟨.hbm, 109, rfl⟩
abbrev main_while0b_c_38 : Ref sig .tc := ⟨.hbm, 110, rfl⟩
abbrev main_while0b_v80 : Ref sig .tc := ⟨.hbm, 111, rfl⟩
abbrev main_while0b_v81 : Ref sig .tc := ⟨.hbm, 112, rfl⟩
abbrev main_while0b_c_39 : Ref sig .tc := ⟨.hbm, 113, rfl⟩
abbrev main_while0b_c_40 : Ref sig .tc := ⟨.hbm, 114, rfl⟩
abbrev main_while0b_v82 : Ref sig .tc := ⟨.hbm, 115, rfl⟩
abbrev main_while0b_c_41 : Ref sig .tc := ⟨.hbm, 116, rfl⟩
abbrev main_while0b_c_42 : Ref sig .tc := ⟨.hbm, 117, rfl⟩
abbrev main_while0b_v83 : Ref sig .tc := ⟨.hbm, 118, rfl⟩
abbrev main_while0b_c_43 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_cst_44 : Ref sig .tc := ⟨.hbm, 128, rfl⟩
abbrev main_while0b_v92 : Ref sig .tc := ⟨.hbm, 129, rfl⟩
abbrev main_while0b_v93 : Ref sig .tc := ⟨.hbm, 130, rfl⟩
abbrev main_while0b_cst_45 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_cst_46 : Ref sig .tc := ⟨.hbm, 135, rfl⟩
abbrev main_while0b_v97 : Ref sig .tc := ⟨.hbm, 136, rfl⟩
abbrev main_while0b_v98 : Ref sig .tc := ⟨.hbm, 137, rfl⟩
abbrev main_while0b_cst_47 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_c_48 : Ref sig .tc := ⟨.hbm, 142, rfl⟩
abbrev main_while0b_v102 : Ref sig .tc := ⟨.hbm, 143, rfl⟩
abbrev main_while0b_v103 : Ref sig .tc := ⟨.hbm, 144, rfl⟩
abbrev main_while0b_c_49 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_cst_50 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_c_51 : Ref sig .tc := ⟨.hbm, 161, rfl⟩
abbrev main_while0b_v118 : Ref sig .tc := ⟨.hbm, 162, rfl⟩
abbrev main_while0b_v119 : Ref sig .tc := ⟨.hbm, 163, rfl⟩
abbrev main_while0b_c_52 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_v125 : Ref sig .tc := ⟨.hbm, 170, rfl⟩
abbrev main_while0b_v126 : Ref sig .tc := ⟨.hbm, 171, rfl⟩
abbrev main_while0b_v127 : Ref sig .tc := ⟨.hbm, 172, rfl⟩
abbrev main_while0b_c_53 : Ref sig .tc := ⟨.hbm, 173, rfl⟩
abbrev main_while0b_v128 : Ref sig .tc := ⟨.hbm, 174, rfl⟩
abbrev main_c_5 : Ref sig .tc := ⟨.hbm, 175, rfl⟩
abbrev main_v27 : Ref sig .tc := ⟨.hbm, 176, rfl⟩
abbrev main_c_6 : Ref sig .tc := ⟨.hbm, 177, rfl⟩
abbrev main_v28 : Ref sig .tc := ⟨.hbm, 178, rfl⟩
abbrev main_v29 : Ref sig .tc := ⟨.hbm, 179, rfl⟩
abbrev main_c_7 : Ref sig .tc := ⟨.hbm, 180, rfl⟩
abbrev main_v30 : Ref sig .tc := ⟨.hbm, 181, rfl⟩
abbrev main_v31 : Ref sig .tc := ⟨.hbm, 182, rfl⟩
abbrev main_v32 : Ref sig .tc := ⟨.hbm, 183, rfl⟩
abbrev main_v33 : Ref sig .tc := ⟨.hbm, 184, rfl⟩
abbrev main_v34 : Ref sig .tc := ⟨.hbm, 185, rfl⟩
abbrev main_cst_8 : Ref sig .tc := ⟨.hbm, 186, rfl⟩
abbrev main_cst_9 : Ref sig .tc := ⟨.hbm, 187, rfl⟩
abbrev main_call1_v0 : Ref sig .tc := ⟨.hbm, 188, rfl⟩
abbrev main_call1_v1 : Ref sig .tc := ⟨.hbm, 189, rfl⟩
abbrev main_v35 : Ref sig .tc := ⟨.hbm, 190, rfl⟩
abbrev main_v36 : Ref sig .tc := ⟨.hbm, 191, rfl⟩
abbrev main_v37 : Ref sig .tc := ⟨.hbm, 192, rfl⟩

abbrev nD : Nat := 1
abbrev τ : Topo := Topo.v7x

variable {F : FTy → Type} [FloatOps F]

abbrev main_while0_count : Scf.Loop 32 := ⟨0#32, 20000#32, 1#32⟩
-- ==== Proof.Base.lean ====
/-
  What the whole launch shares: the program as the launch theorem sees it, the resource algebra (the handshakes' rounds,
  the pipeline's rounds, the transfers' counters), the arrays' locations, and what the handshakes of the two SparseCore
  calls carry, with the values they carry it at.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.ShareLeaves
public import Idealize.ShloMosaic.Lib.StableHlo.Run
public import Idealize.ShloMosaic.Lib.Pipeline.Kit
public import Idealize.ShloMosaic.Lib.Pipeline.RegionArraysS
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP (F : FTy → Type) [FloatOps F] : Labels := Pipeline.Sig (Λ₀ F) (Fin 1) fun p => (pcfgs (F := F) p).Adm
abbrev K : SparseCore.Cfg τ sig (ΛP F) 2 := sc (F := F)
abbrev D : Defs nD τ sig (Elt F) (ΛP F) := Pipeline.defs pcfgs defs₀
/-- The variants: the inner fixpoint loop of the suppression kernel counts down a natural number. -/
abbrev 𝒱₀ : Variants := Variants.nat
abbrev 𝒱 : Variants := 𝒱₀.lift
abbrev v₀ : 𝒱.V := Sum.inl none

/-- The handshake semaphores are four different launch semaphores and no scoped buffer is shared between tiles. -/
theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × UP × Counters

abbrev MM (F : FTy → Type) [FloatOps F] := MT nD τ sig (HIx 2) (Elt F) ℕ UU ℕ

local notation "𝕄" => MT nD τ sig (HIx 2) (Elt F) ℕ UU ℕ

/-- The handshakes' rounds, the first component. -/
abbrev EH : Emb UH (MT nD τ sig (HIx 2) (Elt F) ℕ UU ℕ) := embL
/-- The pipeline's rounds, the first component of the second. -/
abbrev EP : Emb UP (MT nD τ sig (HIx 2) (Elt F) ℕ UU ℕ) := (Emb.inl : Emb UP (UP × Counters)).trans embR

/-! ## The arrays the SparseCore calls move -/

/-- The table of rows, the list of row numbers, the rows gathered, the values scattered, the rows scattered into. -/
abbrev tabLoc (d : Dev nD) : Loc nD τ sig := (SparseCore.T d).loc main_v6
abbrev ixLoc (d : Dev nD) : Loc nD τ sig := (SparseCore.T d).loc main_v10
abbrev gatLoc (d : Dev nD) : Loc nD τ sig := (SparseCore.T d).loc main_v11
abbrev valLoc (d : Dev nD) : Loc nD τ sig := (SparseCore.T d).loc main_v31
abbrev scaLoc (d : Dev nD) : Loc nD τ sig := (SparseCore.T d).loc main_v32

/-- The entries of a list of 640 are numbered by their coordinate. -/
theorem sym640 (k : Fin S640.numel) : ((S640.rowMajor.symm k) 0 : Fin 640) = (⟨k.val, k.isLt⟩ : Fin 640) := by
  apply Fin.ext
  have h := Shape.rowMajor_val_one (d := ![640]) (S640.rowMajor.symm k)
  rw [← h]; exact congrArg Fin.val (Equiv.apply_symm_apply S640.rowMajor k)

/-- The list of row numbers names each of the 20480 rows exactly once. -/
structure ListOK (ix : S20480.Idx → BitVec 32) : Prop where
  lt : ∀ x, (ix x).toNat < 20480
  inj : Function.Injective fun x => (ix x).toNat

/-- The row number of entry `r` of a shape of rows. -/
abbrev rowIx (r : Fin 20480) : S20480.Idx := fun | 0 => r | ⟨_ + 1, h⟩ => absurd h (Nat.not_lt.2 (Nat.le_add_left _ _))
/-- Element `(r, k)` of a table of rows. -/
abbrev elIx (r : Fin 20480) (k : Fin 128) : S20480x128.Idx :=
  fun | 0 => r | 1 => k | ⟨_ + 2, h⟩ => absurd h (Nat.not_lt.2 (Nat.le_add_left _ _))

/-- What the gather leaves: row `r` is the table's row `ix r`. -/
def gathered (tab : S20480x128.Idx → F .f32) (ix : S20480.Idx → BitVec 32) (hix : ListOK ix) : S20480x128.Idx → F .f32 :=
  fun x => tab (elIx ⟨(ix (rowIx (x 0))).toNat, hix.lt _⟩ (x 1))

/-- The number of the task on tile `s` of SparseCore `c`: it moves rows `640 * wid` to `640 * wid + 639`. -/
def wid (c : Fin 2) (s : Fin 16) : Fin 32 := ⟨2 * s.val + c.val, by omega⟩

/-- The elements of the rows that task `w` gathers. -/
def gatSet (w : Fin 32) : Finset S20480x128.Idx := Finset.univ.filter fun x => (x 0).val / 640 = w.val

/-- Row `n` is one that task `w` scatters into: an entry of its part of the list names it. -/
def Owns (ix : S20480.Idx → BitVec 32) (w : Fin 32) (n : ℕ) : Prop := ∃ r : Fin 20480, r.val / 640 = w.val ∧ (ix (rowIx r)).toNat = n

/-- The elements of the rows that task `w` scatters into. -/
def scaSet (ix : S20480.Idx → BitVec 32) (w : Fin 32) : Finset S20480x128.Idx :=
  open scoped Classical in Finset.univ.filter fun x => Owns ix w (x 0).val

/-- A contents of the scattered rows is right: row `ix r` holds row `r` of the values. -/
def Scattered (vals : S20480x128.Idx → F .f32) (ix : S20480.Idx → BitVec 32) (hix : ListOK ix) (out : S20480x128.Idx → F .f32) : Prop :=
  ∀ (r : Fin 20480) (k : Fin 128), out (elIx ⟨(ix (rowIx r)).toNat, hix.lt _⟩ k) = vals (elIx r k)

/-- The share of an array read by all 32 tasks that task `w` reads through. -/
abbrev taskShare (w : Fin 32) : PosShare TreeShare := ShareLeaves.leaf 5 fullShare w

/-! ## What the handshakes carry -/

/-- The values the two SparseCore calls are given. -/
structure Vals (F : FTy → Type) where
  tab : Dev nD → S20480x128.Idx → F .f32
  ix : Dev nD → S20480.Idx → BitVec 32
  ok : ∀ d, ListOK (ix d)
  vals : Dev nD → S20480x128.Idx → F .f32
  out : Dev nD → S20480x128.Idx → F .f32
  scat : ∀ d, Scattered (vals d) (ix d) (ok d) (out d)

variable (X : Vals F)

/-- What the task numbered `w` of the gather is handed: its shares of the table and of the list, its rows of the result. -/
abbrev gatIn (d : Dev nD) (w : Fin 32) : sProp 𝕄 :=
  iprop((tabLoc d ↦{taskShare w} (X.tab d : Buf (Elt F) (tabLoc d))) ∗ (ixLoc d ↦{taskShare w} (X.ix d : Buf (Elt F) (ixLoc d)))
    ∗ ∃ f : Buf (Elt F) (gatLoc d), gatLoc d ↦[gatSet w]{fullShare} f)
/-- What it hands back: its rows of the result hold the rows its part of the list names. -/
abbrev gatOut (d : Dev nD) (w : Fin 32) : sProp 𝕄 :=
  iprop((tabLoc d ↦{taskShare w} (X.tab d : Buf (Elt F) (tabLoc d))) ∗ (ixLoc d ↦{taskShare w} (X.ix d : Buf (Elt F) (ixLoc d)))
    ∗ (gatLoc d ↦[gatSet w]{fullShare} (gathered (X.tab d) (X.ix d) (X.ok d) : Buf (Elt F) (gatLoc d))))
/-- What the task numbered `w` of the scatter is handed: its shares of the values and of the list, the rows its part of
    the list names. -/
abbrev scaIn (d : Dev nD) (w : Fin 32) : sProp 𝕄 :=
  iprop((valLoc d ↦{taskShare w} (X.vals d : Buf (Elt F) (valLoc d))) ∗ (ixLoc d ↦{taskShare w} (X.ix d : Buf (Elt F) (ixLoc d)))
    ∗ ∃ f : Buf (Elt F) (scaLoc d), scaLoc d ↦[scaSet (X.ix d) w]{fullShare} f)
/-- What it hands back: those rows hold its values. -/
abbrev scaOut (d : Dev nD) (w : Fin 32) : sProp 𝕄 :=
  iprop((valLoc d ↦{taskShare w} (X.vals d : Buf (Elt F) (valLoc d))) ∗ (ixLoc d ↦{taskShare w} (X.ix d : Buf (Elt F) (ixLoc d)))
    ∗ (scaLoc d ↦[scaSet (X.ix d) w]{fullShare} (X.out d : Buf (Elt F) (scaLoc d))))

theorem nCore_eq (q : Fin 2) : (K (F := F)).nCore q = 2 := by fin_cases q <;> rfl
theorem nSub_eq (q : Fin 2) : (K (F := F)).nSub q = 16 := by fin_cases q <;> rfl
/-- The number of the task on a tile of call `q`. -/
abbrev widK (q : Fin 2) (c : Fin ((K (F := F)).nCore q)) (i : Fin ((K (F := F)).nSub q)) : Fin 32 :=
  wid (Fin.cast (nCore_eq q) c) (Fin.cast (nSub_eq q) i)

/-- A task's operands, by the call. -/
abbrev tIn (q : Fin 2) (d : Dev nD) (w : Fin 32) : sProp 𝕄 := match q with | 0 => gatIn X d w | 1 => scaIn X d w
/-- A task's results, by the call. -/
abbrev tOut (q : Fin 2) (d : Dev nD) (w : Fin 32) : sProp 𝕄 := match q with | 0 => gatOut X d w | 1 => scaOut X d w

/-- Each call gives a SparseCore what its sixteen tasks are handed, and takes back what they hand back. -/
def P : (K (F := F)).Pay (nD := nD) (Val := Elt F) (Name := ℕ) (U := UU) where
  st := fun q d c => bigSep Finset.univ fun i => tIn X q d (widK (F := F) q c i)
  dn := fun q d c => bigSep Finset.univ fun i => tOut X q d (widK (F := F) q c i)
  go := fun q d c i => tIn X q d (widK (F := F) q c i)
  td := fun q d c i => tOut X q d (widK (F := F) q c i)
  x := fun _ _ => iprop(emp)

instance tIn_storable (q : Fin 2) (d : Dev nD) (w : Fin 32) : BI.Storable (upEmb : UEmb _ 𝕄) (tIn X q d w) :=
  match q with
  | 0 => (inferInstance : BI.Storable (upEmb : UEmb _ 𝕄) (gatIn X d w))
  | 1 => (inferInstance : BI.Storable (upEmb : UEmb _ 𝕄) (scaIn X d w))
instance tOut_storable (q : Fin 2) (d : Dev nD) (w : Fin 32) : BI.Storable (upEmb : UEmb _ 𝕄) (tOut X q d w) :=
  match q with
  | 0 => (inferInstance : BI.Storable (upEmb : UEmb _ 𝕄) (gatOut X d w))
  | 1 => (inferInstance : BI.Storable (upEmb : UEmb _ 𝕄) (scaOut X d w))

instance P_storable : (P X).IsStorable where
  st q d c := (inferInstance : BI.Storable (upEmb : UEmb _ 𝕄) (bigSep Finset.univ fun i => tIn X q d (widK (F := F) q c i)))
  dn q d c := (inferInstance : BI.Storable (upEmb : UEmb _ 𝕄) (bigSep Finset.univ fun i => tOut X q d (widK (F := F) q c i)))
  go q d c i := (inferInstance : BI.Storable (upEmb : UEmb _ 𝕄) (tIn X q d (widK (F := F) q c i)))
  td q d c i := (inferInstance : BI.Storable (upEmb : UEmb _ 𝕄) (tOut X q d (widK (F := F) q c i)))

/-- A SparseCore's operands are its tasks', and its results theirs. -/
theorem vecSplit (q : Fin 2) : (K (F := F)).VecSplit' (P X) q := by
  intro d c
  show (bigSep Finset.univ fun i => (P X).go q d c i) ⊢ |={Set.univ}=> iprop((bigSep Finset.univ fun i => (P X).go q d c i)
    ∗ ((bigSep Finset.univ fun i => (P X).td q d c i) -∗ (bigSep Finset.univ fun i => (P X).td q d c i)))
  iintro Hst
  imodintro
  isplitl [Hst]; · iexact Hst
  iintro Htd; iexact Htd

end Cert.Proof

end
-- ==== Proof.Gather.lean ====
/-
  The gather's task on one tile: fetch its 640 entries of the list, move the table's rows those entries name into the
  tile's memory by one indirect copy, copy them out to the tile's rows of the result. It leaves those rows holding the
  rows the list names.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tabV" => (Memref.whole Cert.KernelIdeal.main_v6_scv : Memref Cert.KernelIdeal.sig Kind.scVector Space.hbm Cert.KernelIdeal.S20480x128 EltTy.f32)
local notation "ixV" => (Memref.whole Cert.KernelIdeal.main_v10_scv : Memref Cert.KernelIdeal.sig Kind.scVector Space.hbm Cert.KernelIdeal.S20480 EltTy.i32)
local notation "gatV" => (Memref.whole Cert.KernelIdeal.main_v11_scv : Memref Cert.KernelIdeal.sig Kind.scVector Space.hbm Cert.KernelIdeal.S20480x128 EltTy.f32)
local notation "lstV" => (Memref.whole Cert.KernelIdeal.cc0_scratch0 : Memref Cert.KernelIdeal.sig Kind.scVector Space.vmem Cert.KernelIdeal.S640 EltTy.i32)
local notation "rowV" => (Memref.whole Cert.KernelIdeal.cc0_scratch1 : Memref Cert.KernelIdeal.sig Kind.scVector Space.vmem Cert.KernelIdeal.S640x128 EltTy.f32)

namespace Gather

variable (X : Vals F) (d : Dev nD) (L : grid0.Coords)

abbrev cV : Fin τ.nSC := (L 0).castLE hcore0
abbrev jV : Fin τ.nSub := (L 1).castLE hsub0
/-- The task's number. -/
abbrev wL : Fin 32 := wid (L 0) (L 1)

/-- The task's part of the list, its rows of the result and the whole table, as the task addresses them. -/
abbrev ixK : Memref sig .scVector .hbm S640 .i32 := (ixV).slice (Rect.unit (s := S20480) (k0_off1 L) S640.size (k0_off1_inb L)) (fun _ => rfl)
abbrev gatK : Memref sig .scVector .hbm S640x128 .f32 := (gatV).slice (Rect.unit (s := S20480x128) (k0_off2 L) S640x128.size (k0_off2_inb L)) (fun _ => rfl)
abbrev tabK : Memref sig .scVector .hbm S20480x128 .f32 := (tabV).slice (Rect.unit (s := S20480x128) ![0, 0] S20480x128.size inb_S20480x128_S20480x128_0_0) (fun _ => rfl)

/-- The task's rows of the result are the rows its number names. -/
theorem set_gatK : (gatK L).view.set = gatSet (wL L) := by
  show ((View.whole (main_v11_scv : Ref sig .scVector)).slice (Rect.unit (s := S20480x128) (k0_off2 L) S640x128.size (k0_off2_inb L))).set = _
  rw [View.set_slice]
  refine Finset.map_refl.trans ?_
  ext x
  rw [Rect.mem_set_unit, gatSet, Finset.mem_filter]
  have h0 : (L 0).val < 2 := (L 0).isLt
  have h1 : (L 1).val < 16 := (L 1).isLt
  have hx0 : (x 0).val < 20480 := (x 0).isLt
  have hx1 : (x 1).val < 128 := (x 1).isLt
  simp only [k0_off2_eq]
  constructor
  · intro h
    have h' : 1280 * (L 1).val + 640 * (L 0).val ≤ (x 0).val ∧ (x 0).val < 1280 * (L 1).val + 640 * (L 0).val + 640 := h 0
    refine ⟨Finset.mem_univ _, ?_⟩
    show (x 0).val / 640 = 2 * (L 1).val + (L 0).val
    omega
  · rintro ⟨-, h⟩ a
    have h' : (x 0).val / 640 = 2 * (L 1).val + (L 0).val := h
    match a with
    | 0 =>
      show 1280 * (L 1).val + 640 * (L 0).val ≤ (x 0).val ∧ (x 0).val < 1280 * (L 1).val + 640 * (L 0).val + 640
      omega
    | 1 =>
      show 0 ≤ (x 1).val ∧ (x 1).val < 0 + 128
      omega

theorem pts_gatK (f : Buf (Elt F) (gatLoc d)) :
    ((gatK L).view.loc (V d (cV L) (jV L)) ↦[(gatK L).view.set]{fullShare} f : sProp 𝕄) = gatLoc d ↦[gatSet (wL L)]{fullShare} f := by
  rw [set_gatK]
theorem pts_tabV (q : PosShare TreeShare) (f : Buf (Elt F) (tabLoc d)) :
    ((tabV).view.loc (V d (cV L) (jV L)) ↦{q} f : sProp 𝕄) = tabLoc d ↦{q} f := rfl
theorem pts_ixV (q : PosShare TreeShare) (f : Buf (Elt F) (ixLoc d)) :
    ((ixV).view.loc (V d (cV L) (jV L)) ↦{q} f : sProp 𝕄) = ixLoc d ↦{q} f := rfl
theorem pts_lstV (f : Buf (Elt F) ((V d (cV L) (jV L)).loc cc0_scratch0)) :
    ((lstV).view.loc (V d (cV L) (jV L)) ↦{fullShare} f : sProp 𝕄) = (V d (cV L) (jV L)).loc cc0_scratch0 ↦{fullShare} f := rfl
theorem pts_rowV (f : Buf (Elt F) ((V d (cV L) (jV L)).loc cc0_scratch1)) :
    ((rowV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The tile's own semaphores: the three the task uses and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The tile's own buffers: the two the task uses, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem base_lt (j : Fin 640) : 1280 * (L 1).val + 640 * (L 0).val + j.val < 20480 := by
  have h0 : (L 0).val < 2 := (L 0).isLt
  have h1 : (L 1).val < 16 := (L 1).isLt
  omega
/-- Row `j` of the task's rows. -/
abbrev rowL (j : Fin 640) : Fin 20480 := ⟨1280 * (L 1).val + 640 * (L 0).val + j.val, base_lt L j⟩

/-- Entry `j` of the task's part of the list. -/
theorem read_ixK (f : S20480.Idx → BitVec 32) (j : S640.Idx) :
    (ixK L).view.read (Elt F) f j = f (rowIx (rowL L (j 0))) := by
  refine ((View.read_apply _ _).trans (cast_eq _ _)).trans (congrArg f ?_)
  funext a
  match a with
  | 0 =>
    apply Fin.ext
    show k0_off1 L 0 + 1 * (j 0).val = _
    rw [k0_off1_eq]
    show 1280 * (L 1).val + 640 * (L 0).val + 1 * (j 0).val = 1280 * (L 1).val + 640 * (L 0).val + (j 0).val
    omega
/-- Where element `z` of the task's rows of the result lies. -/
theorem emb_gatK (z : S640x128.Idx) : (gatK L).view.emb z = elIx (rowL L (z 0)) (z 1) := by
  funext a
  match a with
  | 0 =>
    apply Fin.ext
    show k0_off2 L 0 + 1 * (z 0).val = _
    rw [k0_off2_eq]
    show 1280 * (L 1).val + 640 * (L 0).val + 1 * (z 0).val = 1280 * (L 1).val + 640 * (L 0).val + (z 0).val
    omega
  | 1 =>
    apply Fin.ext
    show k0_off2 L 1 + 1 * (z 1).val = _
    rw [k0_off2_eq]
    show 0 + 1 * (z 1).val = (z 1).val
    omega

/-- What the indirect copy puts at element `z`, the tile's list holding the task's entries. -/
theorem payload (z : S640x128.Idx) (l : S640.Idx → BitVec 32) (hl : ∀ j, l j = X.ix d (rowIx (rowL L (j 0)))) (hn hin) :
    SparseCore.gatherPayload (F := F) (e := .f32) gathers_S20480x128_S640x128
        (View.read (Elt F) (tabK).view (X.tab d)) (SparseCore.rows (F := F) l hn hin) z
      = gathered (X.tab d) (X.ix d) (X.ok d) (elIx (rowL L (z 0)) (z 1)) := by
  refine ((View.read_apply _ _).trans (cast_eq _ _)).trans (congrArg (X.tab d) ?_)
  funext a
  match a with
  | 0 =>
    apply Fin.ext
    show 0 + 1 * (Shape.Gathers.idx gathers_S20480x128_S640x128 _ z (Shape.Gathers.axis gathers_S20480x128_S640x128)).val = (X.ix d (rowIx (rowL L (z 0)))).toNat
    rw [Shape.Gathers.idx_axis]
    show 0 + 1 * (l (S640.rowMajor.symm _)).toNat = _
    rw [hl, Nat.zero_add, Nat.one_mul, sym640]
    rfl
  | 1 =>
    apply Fin.ext
    show 0 + 1 * (Shape.Gathers.idx gathers_S20480x128_S640x128 _ z 1).val = (z 1).val
    rw [Shape.Gathers.idx_of_ne _ _ _ _ (by decide), Nat.zero_add, Nat.one_mul]
    rfl

/-- The tile's list, once fetched. -/
theorem list_fetched (fs : S640.Idx → BitVec 32) (j : S640.Idx) :
    View.read (Elt F) (lstV).view (View.write (Elt F) (lstV).view fs ((ixK L).view.read (Elt F) (X.ix d)) Finset.univ) j
      = X.ix d (rowIx (rowL L (j 0))) := by
  rw [View.write_whole_univ]
  simp only [Memref.view_whole, View.read_whole]
  exact read_ixK L _ j

set_option maxHeartbeats 4000000 in
/-- The task on one tile. -/
theorem tile_body (hF : (K (F := F)).Facts) (O : CellTallies nD τ sig (HIx 2)) (W : Waits sig (HIx 2)) (hO : ∀ g, O g none = 0) :
    iprop(levAts (K (F := F)).L (K (F := F)).lev ∗ emp ∗ gatIn X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tabV (Memref.isWhole_whole _) ixV (Memref.isWhole_whole _) gatV (Memref.isWhole_whole _)
            lstV (Memref.isWhole_whole _) rowV (Memref.isWhole_whole _) cc0_scratch2 cc0_scoped0 cc0_scoped1)
          fun _ => iprop(gatOut X d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_ixV (F := F) d L _ _).symm) $$ Hi
  ihave Ho' := (Entails.of_eq (pts_gatK (F := F) d L _).symm) $$ Ho
  ihave Ht' := (Entails.of_eq (pts_tabV (F := F) d L _ _).symm) $$ Ht
  ihave Hs' := (Entails.of_eq (pts_lstV (F := F) d L _).symm) $$ Hs
  ihave Hr' := (Entails.of_eq (pts_rowV (F := F) d L _).symm) $$ Hr
  have hin : ∀ (g : Buf (Elt F) ((V d (cV L) (jV L)).loc cc0_scratch0)) x, ((lstV).view.read (Elt F) (View.write (Elt F) (lstV).view g
      ((ixK L).view.read (Elt F) (X.ix d)) Finset.univ) x).toNat < S20480x128.size gathers_S20480x128_S640x128.axis := by
    intro g x
    rw [list_fetched]
    exact (X.ok d).lt _
  sl_exec
  sl_step
  have hval : ∀ y ∈ (gatK L).view.set, (gatK L).view.writes (Elt F) fo [⟨Rect.whole S640x128, tile_body.sl.dma0_1 X d L fs fr hin⟩] y
      = gathered (X.tab d) (X.ix d) (X.ok d) y := by
    intro y hy
    obtain ⟨z, -, rfl⟩ := Finset.mem_map.mp hy
    have h := congrFun (View.read_writes_whole (Val := Elt F) (gatK L).view fo (tile_body.sl.dma0_1 X d L fs fr hin)) z
    refine (((View.read_apply _ _).trans (cast_eq _ _)).symm.trans h).trans ?_
    rw [emb_gatK]
    unfold tile_body.sl.dma0_1 tile_body.sl.gather1
    refine (congrFun (View.read_writes_whole (Val := Elt F) (rowV).view fr _) z).trans ?_
    exact payload X d L z _ (list_fetched X d L fs) _ _
  ihave Ho'' := (Entails.of_eq (pointsTo_congr hval)) $$ Ho'
  isplitl [Hi' Ht' Ho'']
  · isplitl [Ht']; · iexact Ht'
    isplitl [Hi']; · iexact Hi'
    iapply (Entails.of_eq (pts_gatK (F := F) d L _)); iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tabV (Memref.isWhole_whole _) ixV (Memref.isWhole_whole _) gatV (Memref.isWhole_whole _)
          lstV (Memref.isWhole_whole _) rowV (Memref.isWhole_whole _) cc0_scratch2 cc0_scoped0 cc0_scoped1) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the first SparseCore call's tasks. -/
theorem tileObl (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Gather

end Cert.Proof

end
-- ==== Proof.Scatter.lean ====
/-
  The scatter's task on one tile: fetch its 640 entries of the list and its 640 rows of the values, move those rows to
  the rows the entries name by one indirect copy. The rows it names then hold its values.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "valV" => (Memref.whole Cert.KernelIdeal.main_v31_scv : Memref Cert.KernelIdeal.sig Kind.scVector Space.hbm Cert.KernelIdeal.S20480x128 EltTy.f32)
local notation "ixV" => (Memref.whole Cert.KernelIdeal.main_v10_scv : Memref Cert.KernelIdeal.sig Kind.scVector Space.hbm Cert.KernelIdeal.S20480 EltTy.i32)
local notation "scaV" => (Memref.whole Cert.KernelIdeal.main_v32_scv : Memref Cert.KernelIdeal.sig Kind.scVector Space.hbm Cert.KernelIdeal.S20480x128 EltTy.f32)
local notation "lstV" => (Memref.whole Cert.KernelIdeal.cc2_scratch0 : Memref Cert.KernelIdeal.sig Kind.scVector Space.vmem Cert.KernelIdeal.S640 EltTy.i32)
local notation "rowV" => (Memref.whole Cert.KernelIdeal.cc2_scratch1 : Memref Cert.KernelIdeal.sig Kind.scVector Space.vmem Cert.KernelIdeal.S640x128 EltTy.f32)

namespace Scatter

variable (X : Vals F) (d : Dev nD) (L : grid2.Coords)

abbrev cV : Fin τ.nSC := (L 0).castLE hcore2
abbrev jV : Fin τ.nSub := (L 1).castLE hsub2
/-- The task's number. -/
abbrev wL : Fin 32 := wid (L 0) (L 1)

/-- The task's part of the list, its rows of the values and the whole target, as the task addresses them. -/
abbrev ixK : Memref sig .scVector .hbm S640 .i32 := (ixV).slice (Rect.unit (s := S20480) (k2_off1 L) S640.size (k2_off1_inb L)) (fun _ => rfl)
abbrev valK : Memref sig .scVector .hbm S640x128 .f32 := (valV).slice (Rect.unit (s := S20480x128) (k2_off2 L) S640x128.size (k2_off2_inb L)) (fun _ => rfl)
abbrev scaK : Memref sig .scVector .hbm S20480x128 .f32 := (scaV).slice (Rect.unit (s := S20480x128) ![0, 0] S20480x128.size inb_S20480x128_S20480x128_0_0) (fun _ => rfl)

/-- The target's axis of rows. -/
abbrev axR : Fin S20480x128.rank := Shape.Gathers.axis gathers_S20480x128_S640x128

/-- Where a row's element lies. -/
theorem emb_row (n : Fin 20480) (j : (S20480x128.rowShape axR).Idx) :
    ((scaK).view.slice (S20480x128.rowRect axR n)).emb j = (S20480x128.rowRect axR n).emb j := by
  funext a
  match a with
  | 0 => exact Fin.ext (show 0 + 1 * ((S20480x128.rowRect axR n).emb j 0).val = _ by rw [Nat.zero_add, Nat.one_mul])
  | 1 => exact Fin.ext (show 0 + 1 * ((S20480x128.rowRect axR n).emb j 1).val = _ by rw [Nat.zero_add, Nat.one_mul])

/-- An element of the target lies on the row its first coordinate is. -/
theorem mem_row (n : Fin 20480) (x : S20480x128.Idx) :
    x ∈ ((scaK).view.slice (S20480x128.rowRect axR n)).set ↔ (x 0).val = n.val := by
  constructor
  · intro h
    obtain ⟨j, -, rfl⟩ := Finset.mem_map.mp h
    exact (congrArg (fun e : S20480x128.Idx => (e 0).val) (emb_row n j)).trans (congrArg Fin.val (Shape.rowRect_emb_axis axR n j))
  · intro h
    refine Finset.mem_map.mpr ⟨S20480x128.rowProj axR x, Finset.mem_univ _, ?_⟩
    have e : n = x axR := Fin.ext h.symm
    subst e
    exact (emb_row (x axR) _).trans (Shape.rowRect_emb_rowProj axR x)

/-- The rows the task's part of the list names, as the indirect copy names them. -/
theorem set_scaK : SparseCore.rowsWhere (scaK).view axR (Owns (X.ix d) (wL L)) = scaSet (X.ix d) (wL L) := by
  classical
  ext x
  rw [SparseCore.mem_rowsWhere]
  unfold scaSet
  rw [Finset.mem_filter]
  constructor
  · rintro ⟨n, hn, hx⟩
    refine ⟨Finset.mem_univ _, ?_⟩
    have h := (mem_row n x).mp hx
    have e : (x 0).val = n.val := h
    rw [e]; exact hn
  · rintro ⟨-, h⟩
    exact ⟨x 0, h, (mem_row (x 0) x).mpr rfl⟩

theorem pts_scaK (f : Buf (Elt F) (scaLoc d)) :
    ((scaK).view.loc (V d (cV L) (jV L)) ↦[SparseCore.rowsWhere (scaK).view axR (Owns (X.ix d) (wL L))]{fullShare} f : sProp 𝕄)
      = scaLoc d ↦[scaSet (X.ix d) (wL L)]{fullShare} f := by
  rw [set_scaK]
theorem pts_valV (q : PosShare TreeShare) (f : Buf (Elt F) (valLoc d)) :
    ((valV).view.loc (V d (cV L) (jV L)) ↦{q} f : sProp 𝕄) = valLoc d ↦{q} f := rfl
theorem pts_ixV (q : PosShare TreeShare) (f : Buf (Elt F) (ixLoc d)) :
    ((ixV).view.loc (V d (cV L) (jV L)) ↦{q} f : sProp 𝕄) = ixLoc d ↦{q} f := rfl
theorem pts_lstV (f : Buf (Elt F) ((V d (cV L) (jV L)).loc cc2_scratch0)) :
    ((lstV).view.loc (V d (cV L) (jV L)) ↦{fullShare} f : sProp 𝕄) = (V d (cV L) (jV L)).loc cc2_scratch0 ↦{fullShare} f := rfl
theorem pts_rowV (f : Buf (Elt F) ((V d (cV L) (jV L)).loc cc2_scratch1)) :
    ((rowV).view.loc (V d (cV L) (jV L)) ↦{fullShare} f : sProp 𝕄) = (V d (cV L) (jV L)).loc cc2_scratch1 ↦{fullShare} f := rfl

abbrev cAcell (d : Dev nD) (c : Fin τ.nSC) (i : Fin τ.nSub) : GSem nD τ sig := (V d c i, .dma cc2_scratch2.sem)
abbrev cBcell (d : Dev nD) (c : Fin τ.nSC) (i : Fin τ.nSub) : GSem nD τ sig := (V d c i, .dma cc2_scoped0.sem)
abbrev cCcell (d : Dev nD) (c : Fin τ.nSC) (i : Fin τ.nSub) : GSem nD τ sig := (V d c i, .dma cc2_scoped1.sem)

/-- The tile's own semaphores: the three the task uses and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

/-- The tile's own buffers: the two the task uses, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem base_lt (j : Fin 640) : 1280 * (L 1).val + 640 * (L 0).val + j.val < 20480 := by
  have h0 : (L 0).val < 2 := (L 0).isLt
  have h1 : (L 1).val < 16 := (L 1).isLt
  omega
/-- Row `j` of the task's rows. -/
abbrev rowL (j : Fin 640) : Fin 20480 := ⟨1280 * (L 1).val + 640 * (L 0).val + j.val, base_lt L j⟩

/-- Entry `j` of the task's part of the list. -/
theorem read_ixK (f : S20480.Idx → BitVec 32) (j : S640.Idx) :
    (ixK L).view.read (Elt F) f j = f (rowIx (rowL L (j 0))) := by
  refine ((View.read_apply _ _).trans (cast_eq _ _)).trans (congrArg f ?_)
  funext a
  match a with
  | 0 =>
    apply Fin.ext
    show k2_off1 L 0 + 1 * (j 0).val = _
    rw [k2_off1_eq]
    show 1280 * (L 1).val + 640 * (L 0).val + 1 * (j 0).val = 1280 * (L 1).val + 640 * (L 0).val + (j 0).val
    omega
/-- Element `z` of the task's rows of the values. -/
theorem read_valK (f : S20480x128.Idx → F .f32) (z : S640x128.Idx) :
    (valK L).view.read (Elt F) f z = f (elIx (rowL L (z 0)) (z 1)) := by
  refine ((View.read_apply _ _).trans (cast_eq _ _)).trans (congrArg f ?_)
  funext a
  match a with
  | 0 =>
    apply Fin.ext
    show k2_off2 L 0 + 1 * (z 0).val = _
    rw [k2_off2_eq]
    show 1280 * (L 1).val + 640 * (L 0).val + 1 * (z 0).val = 1280 * (L 1).val + 640 * (L 0).val + (z 0).val
    omega
  | 1 =>
    apply Fin.ext
    show k2_off2 L 1 + 1 * (z 1).val = _
    rw [k2_off2_eq]
    show 0 + 1 * (z 1).val = (z 1).val
    omega

/-- The tile's list, once fetched. -/
theorem list_fetched (fs : S640.Idx → BitVec 32) (j : S640.Idx) :
    View.read (Elt F) (lstV).view (View.write (Elt F) (lstV).view fs ((ixK L).view.read (Elt F) (X.ix d)) Finset.univ) j
      = X.ix d (rowIx (rowL L (j 0))) := by
  rw [View.write_whole_univ]
  simp only [Memref.view_whole, View.read_whole]
  exact read_ixK L _ j

/-- The tile's rows, once fetched. -/
theorem rows_fetched (fr : S640x128.Idx → F .f32) (z : S640x128.Idx) :
    View.write (Elt F) (rowV).view fr ((valK L).view.read (Elt F) (X.vals d)) Finset.univ z = X.vals d (elIx (rowL L (z 0)) (z 1)) := by
  rw [View.write_whole_univ]
  exact read_valK L _ z

/-- Where element `j` of row `k` lies in the tile's rows. -/
theorem emb_src (k : Fin 640) (j : (S20480x128.rowShape axR).Idx) :
    (((rowV).slice (S640x128.rowRect (Shape.Gathers.axis' gathers_S20480x128_S640x128) k) (S640x128.stride_rowRect _ _)).cast
      (Shape.Gathers.rowShape_eq gathers_S20480x128_S640x128) rfl).view.emb j = (fun | 0 => k | 1 => j (1 : Fin 2) | ⟨_ + 2, h⟩ => absurd h (Nat.not_lt.2 (Nat.le_add_left _ _)) : S640x128.Idx) := by
  funext a
  match a with
  | 0 => exact Shape.rowRect_emb_axis (s := S640x128) (Shape.Gathers.axis' gathers_S20480x128_S640x128) k _
  | 1 =>
    apply Fin.ext
    refine (Shape.rowRect_emb_of_ne (s := S640x128) (Shape.Gathers.axis' gathers_S20480x128_S640x128) k _ (b := 1) (by decide)).trans ?_
    exact Shape.idxEquiv_symm_apply_val (Shape.Gathers.rowShape_eq gathers_S20480x128_S640x128) j (1 : Fin 2)

/-- What the scatter puts at an element of the rows the task names: the tile's list holds the task's entries (`l`), the
    tile's rows hold the task's rows of the values (`fr`). -/
theorem scattered_at (l : S640.Idx → BitVec 32) (hl : ∀ j, l j = X.ix d (rowIx (rowL L (j 0)))) (hn hin)
    (hinj : Function.Injective (SparseCore.rows (F := F) (z := 20480) l hn hin))
    (fr : S640x128.Idx → F .f32) (hfr : ∀ z, fr z = X.vals d (elIx (rowL L (z 0)) (z 1)))
    (fo : S20480x128.Idx → F .f32) (y : S20480x128.Idx) (hy : y ∈ scaSet (X.ix d) (wL L)) :
    SparseCore.scatterBuf (F := F) (V d (cV L) (jV L)) (scaK).view axR (SparseCore.rows (F := F) (z := 20480) l hn hin)
        (SparseCore.scatterRowPayload (F := F) (V d (cV L) (jV L)) (rowV) gathers_S20480x128_S640x128 fr) fo y
      = X.out d y := by
  classical
  obtain ⟨r, hr, hry⟩ := (Finset.mem_filter.mp hy).2
  have h0 : (L 0).val < 2 := (L 0).isLt
  have h1 : (L 1).val < 16 := (L 1).isLt
  have hw : r.val / 640 = 2 * (L 1).val + (L 0).val := hr
  obtain ⟨k, hk⟩ : ∃ k : Fin 640, rowL L k = r :=
    ⟨⟨r.val - (1280 * (L 1).val + 640 * (L 0).val), by omega⟩, Fin.ext (by show 1280 * (L 1).val + 640 * (L 0).val + (r.val - (1280 * (L 1).val + 640 * (L 0).val)) = r.val; omega)⟩
  have hrow : (SparseCore.rows (F := F) (z := 20480) l hn hin k).val = (y 0).val := by
    show (l (S640.rowMajor.symm _)).toNat = _
    rw [hl, sym640, ← hry, ← hk]
    rfl
  have hmem := (mem_row (SparseCore.rows (F := F) (z := 20480) l hn hin k) y).mpr hrow.symm
  refine (SparseCore.scatterBuf_of_mem (F := F) (V d (cV L) (jV L)) (scaK).view axR _ hinj _ fo (k := k) hmem).trans ?_
  obtain ⟨j, -, rfl⟩ := Finset.mem_map.mp hmem
  refine (View.write_emb_of_mem _ _ (Finset.mem_univ _)).trans ((cast_eq _ _).trans ?_)
  refine ((View.read_apply _ _).trans (cast_eq _ _)).trans ?_
  refine (hfr _).trans ?_
  refine (congrArg (X.vals d) ?_).trans ((X.scat d (rowL L k) (j 1)).symm.trans (congrArg (X.out d) ?_))
  · exact congrArg (fun e : S640x128.Idx => elIx (rowL L (e 0)) (e 1)) (emb_src k j)
  · funext a
    match a with
    | 0 =>
      apply Fin.ext
      refine (show (X.ix d (rowIx (rowL L k))).toNat = (SparseCore.rows (F := F) (z := 20480) l hn hin k).val from ?_).trans ?_
      · rw [hrow, ← hry, hk]
      · exact hrow.trans rfl
    | 1 =>
      apply Fin.ext
      refine (Shape.rowRect_emb_of_ne (s := S20480x128) 0 (SparseCore.rows (F := F) (z := 20480) l hn hin k) j (b := 1) (by decide)).symm.trans ?_
      exact congrArg (fun e : S20480x128.Idx => (e 1).val) (emb_row _ j).symm

set_option maxHeartbeats 4000000 in
/-- The task on one tile. -/
theorem tile_body (hF : (K (F := F)).Facts) (O : CellTallies nD τ sig (HIx 2)) (W : Waits sig (HIx 2)) (hO : ∀ g, O g none = 0) :
    iprop(levAts (K (F := F)).L (K (F := F)).lev ∗ emp ∗ scaIn X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_k L valV (Memref.isWhole_whole _) ixV (Memref.isWhole_whole _) scaV (Memref.isWhole_whole _)
            lstV (Memref.isWhole_whole _) rowV (Memref.isWhole_whole _) cc2_scratch2 cc2_scoped0 cc2_scoped1)
          fun _ => iprop(scaOut X d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_k_eq_skeleton]; unfold cc2_k_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_ixV (F := F) d L _ _).symm) $$ Hi
  ihave Ho' := (Entails.of_eq (pts_scaK X d L _).symm) $$ Ho
  ihave Ht' := (Entails.of_eq (pts_valV (F := F) d L _ _).symm) $$ Ht
  ihave Hs' := (Entails.of_eq (pts_lstV (F := F) d L _).symm) $$ Hs
  ihave Hr' := (Entails.of_eq (pts_rowV (F := F) d L _).symm) $$ Hr
  have hin : ∀ (g : Buf (Elt F) ((V d (cV L) (jV L)).loc cc2_scratch0)) x, ((lstV).view.read (Elt F) (View.write (Elt F) (lstV).view g
      ((ixK L).view.read (Elt F) (X.ix d)) Finset.univ) x).toNat < S20480x128.size gathers_S20480x128_S640x128.axis := by
    intro g x
    rw [list_fetched]
    exact (X.ok d).lt _
  have hown : ∀ (g : Buf (Elt F) ((V d (cV L) (jV L)).loc cc2_scratch0)) x, Owns (X.ix d) (wL L) ((lstV).view.read (Elt F) (View.write (Elt F) (lstV).view g
      ((ixK L).view.read (Elt F) (X.ix d)) Finset.univ) x).toNat := by
    intro g x
    rw [list_fetched]
    refine ⟨rowL L (x 0), ?_, rfl⟩
    have h0 : (L 0).val < 2 := (L 0).isLt
    have h1 : (L 1).val < 16 := (L 1).isLt
    have hx : (x 0).val < 640 := (x 0).isLt
    show (1280 * (L 1).val + 640 * (L 0).val + (x 0).val) / 640 = 2 * (L 1).val + (L 0).val
    omega
  have hinj : ∀ (g : Buf (Elt F) ((V d (cV L) (jV L)).loc cc2_scratch0)), Function.Injective fun x => ((lstV).view.read (Elt F) (View.write (Elt F) (lstV).view g
      ((ixK L).view.read (Elt F) (X.ix d)) Finset.univ) x).toNat := by
    intro g x y hxy
    replace hxy : (X.ix d (rowIx (rowL L (x 0)))).toNat = (X.ix d (rowIx (rowL L (y 0)))).toNat := by
      have e := hxy
      rw [← list_fetched X d L g x, ← list_fetched X d L g y]; exact e
    have h := congrFun ((X.ok d).inj hxy) 0
    have h' : (rowL L (x 0)).val = (rowL L (y 0)).val := congrArg Fin.val h
    funext a
    match a with
    | 0 => exact Fin.ext (by simpa using h')
  sl_exec
  sl_step
  have hval : ∀ y ∈ SparseCore.rowsWhere (scaK).view axR (Owns (X.ix d) (wL L)), tile_body.sl.Ho'_sc2 X d L fo fs fr hin y = X.out d y := by
    intro y hy
    rw [set_scaK] at hy
    refine scattered_at X d L _ (list_fetched X d L fs) _ (hin fs) (SparseCore.rows_injective (hinj fs)) _ ?_ fo y hy
    intro z
    exact rows_fetched X d L fr z
  ihave Ho'' := (Entails.of_eq (pointsTo_congr hval)) $$ Ho'
  isplitl [Hi' Ht' Ho'']
  · isplitl [Ht']; · iexact Ht'
    isplitl [Hi']; · iexact Hi'
    iapply (Entails.of_eq (pts_scaK X d L _)); iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (coordsV c s)
          valV (Memref.isWhole_whole _) ixV (Memref.isWhole_whole _) scaV (Memref.isWhole_whole _)
          lstV (Memref.isWhole_whole _) rowV (Memref.isWhole_whole _) cc2_scratch2 cc2_scoped0 cc2_scoped1) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the first SparseCore call's tasks. -/
theorem tileObl (hF : (K (F := F)).Facts) : (K (F := F)).TileObl (D (F := F)) 𝒱 (P X) v₀ 1 := by
  intro d c i O W hO _ _
  simp only [show (P X).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Scatter

end Cert.Proof

end
-- ==== Proof.NmsBody.lean ====
/-
  The suppression kernel on the tensor core, step by step: what its one grid point leaves in the staging buffer of its
  result, as a function of the five operand blocks. The kernel goes through eight blocks of 2560 boxes. For block `k` it
  counts, for every box of the block, the kept boxes of the earlier blocks that suppress it; it builds the matrix of the
  suppressions inside the block; it iterates the suppression step of the block until the step changes nothing; and it
  stores the block's keep row and the block's scores under the keep row.
-/
module

public import proofs.«01_k».proof.Proof.Base
public import Idealize.ShloMosaic.Lib.ReshapeSlab

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (SparseCore.Cfg.HIx 2) (Elt F) ℕ UU ℕ

namespace Nms

/-- The row-`j` rectangle of an eight-row block lies in the block. -/
theorem row_inb {j : ℕ} (h : j < 8) : ∀ a, (![j, 0] : Fin 2 → ℕ) a + S1x2560.size a ≤ S8x2560.size a := by
  intro a
  match a with
  | ⟨0, _⟩ => show j + 1 ≤ 8; omega
  | ⟨1, _⟩ => show 0 + 2560 ≤ 2560; omega

/-- Row `j` of an eight-row buffer's contents, read through the buffer's memref. -/
def rowOf (a : Memref sig .tc .vmem S8x2560 .f32) (X : a.view.ty.Contents (Elt F)) (j : ℕ) : FVec F S1x2560 .f32 :=
  if h : j < 8 then (a.access (Rect.unit (s := S8x2560) ![j, 0] S1x2560.size (row_inb h))).read (Elt F) X
  else k1_pay25 (F := F)

omit [FloatOps F] in
/-- A read at offsets `(j, 0)` reads row `j`. -/
theorem read_row [FloatOps F] (a : Memref sig .tc .vmem S8x2560 .f32) (X : a.view.ty.Contents (Elt F)) {off : Fin 2 → ℕ} {j : ℕ}
    (hoff : off = ![j, 0]) (hj : j < 8) (inb : ∀ x, off x + S1x2560.size x ≤ S8x2560.size x) :
    (a.access (Rect.unit (s := S8x2560) off S1x2560.size inb)).read (Elt F) X = rowOf a X j := by
  subst hoff; unfold rowOf; rw [dif_pos hj]

/-- After a store of row `k`, row `k` is what was stored. -/
theorem row_write_same (a : Memref sig .tc .vmem S8x2560 .f32) (X : a.view.ty.Contents (Elt F)) {off : Fin 2 → ℕ} {k : ℕ}
    (hoff : off = ![k, 0]) (hk : k < 8) (inb : ∀ x, off x + S1x2560.size x ≤ S8x2560.size x) (w : FVec F S1x2560 .f32) :
    rowOf a ((a.access (Rect.unit (s := S8x2560) off S1x2560.size inb)).write (Elt F) X w Finset.univ) k = w := by
  subst hoff; unfold rowOf; rw [dif_pos hk]; exact View.read_write_univ _ _

/-- After a store of row `k`, every other row is as before. -/
theorem row_write_ne (a : Memref sig .tc .vmem S8x2560 .f32) (X : a.view.ty.Contents (Elt F)) {off : Fin 2 → ℕ} {k j : ℕ}
    (hoff : off = ![k, 0]) (hk : k < 8) (hj : j ≠ k) (inb : ∀ x, off x + S1x2560.size x ≤ S8x2560.size x)
    (w : FVec F S1x2560 .f32) :
    rowOf a ((a.access (Rect.unit (s := S8x2560) off S1x2560.size inb)).write (Elt F) X w Finset.univ) j = rowOf a X j := by
  subst hoff; unfold rowOf
  by_cases h : j < 8
  · rw [dif_pos h, dif_pos h]
    refine View.read_slice_write_slice_of_disjoint _ _ _ _ _ ?_
    rw [View.setOn_univ]
    refine View.disjoint_slice_of_sep _ _ _ (0 : Fin 2) rfl rfl ?_
    show j + 1 ≤ k ∨ k + 1 ≤ j
    omega
  · rw [dif_neg h, dif_neg h]

/-! ### The values -/

section Values

variable (r0 r1 r2 r3 r4 : ℕ → FVec F S1x2560 .f32)

/-- The count of the kept boxes of blocks `0, …, j - 1` that suppress the boxes of block `k`, the keep rows `Kp`. -/
def accK (Kp : ℕ → FVec F S1x2560 .f32) (k : ℕ) : ℕ → FVec F S1x2560 .f32
  | 0 => k1_pay25
  | j + 1 => k1_pay26 (r0 k) (r1 k) (r2 k) (r3 k) (accK Kp k j) (k1_pay10 (r0 j) (r1 j) (r2 j) (r3 j))
      (k1_pay11 (k1_pay20 (r0 k)) (k1_pay22 (r2 k)) (r0 j) (r2 j)) (k1_pay12 (k1_pay21 (r1 k)) (k1_pay23 (r3 k)) (r1 j) (r3 j)) (Kp j)

/-- The matrix of the suppressions inside block `k`. -/
def mat (k : ℕ) : FVec F S2560x2560 .f32 :=
  k1_pay32 k1_pay1 (k1_pay23 (r3 k)) (k1_pay24 (r0 k) (r1 k) (r2 k) (r3 k)) (k1_pay29 (r0 k)) (k1_pay30 (r1 k)) (k1_pay31 (r2 k))

/-- The row the iteration of block `k` starts from: one where no kept box of an earlier block suppresses the box. -/
def base (Kp : ℕ → FVec F S1x2560 .f32) (k : ℕ) : FVec F S1x2560 .f32 := k1_pay33 (k1_pay28 (accK r0 r1 r2 r3 Kp k k))

/-- The iteration of the suppression step from the row `v86` under the matrix `M`. -/
def itK (v86 : FVec F S1x2560 .f32) (M : FVec F S2560x2560 .f32) : ℕ → FVec F S1x2560 .f32
  | 0 => v86
  | n + 1 => k1_pay5 v86 (itK v86 M n) M

/-- The keep row of block `k`: the iteration after 2560 steps. -/
def keepRow (Kp : ℕ → FVec F S1x2560 .f32) (k : ℕ) : FVec F S2560 .f32 :=
  k1_pay35 (itK (base r0 r1 r2 r3 Kp k) (mat r0 r1 r2 r3 k) 2560)

/-- The keep rows after `k` blocks. -/
def keeps : ℕ → ℕ → FVec F S1x2560 .f32
  | 0 => fun _ => k1_pay25
  | k + 1 => Function.update (keeps k) k (k1_pay2 (keepRow r0 r1 r2 r3 (keeps k) k))

/-- The result's row `k`: the scores of block `k` under its keep row. -/
def outRow (k : ℕ) : FVec F S1x2560 .f32 := k1_pay3 (keepRow r0 r1 r2 r3 (keeps r0 r1 r2 r3 k) k) (r4 k)

/-- A row of an earlier block stays as it was stored. -/
theorem keeps_succ_lt {k j : ℕ} (h : j ≠ k) :
    keeps r0 r1 r2 r3 (k + 1) j = keeps r0 r1 r2 r3 k j := by
  show Function.update _ _ _ _ = _
  rw [Function.update_of_ne h]

theorem keeps_succ_self (k : ℕ) :
    keeps r0 r1 r2 r3 (k + 1) k = k1_pay2 (keepRow r0 r1 r2 r3 (keeps r0 r1 r2 r3 k) k) := by
  show Function.update _ _ _ _ = _
  rw [Function.update_self]

end Values

/-- The count reads the keep rows of the earlier blocks only. -/
theorem accK_congr (r0 r1 r2 r3 : ℕ → FVec F S1x2560 .f32) {Kp Kp' : ℕ → FVec F S1x2560 .f32} (k : ℕ) :
    ∀ n, (∀ j < n, Kp j = Kp' j) → accK r0 r1 r2 r3 Kp k n = accK r0 r1 r2 r3 Kp' k n
  | 0, _ => rfl
  | n + 1, h => by
    unfold accK
    rw [accK_congr r0 r1 r2 r3 k n (fun j hj => h j (Nat.lt_succ_of_lt hj)), h n (Nat.lt_succ_self n)]

/-- The loop's test at step `n`: whether the step changed the row. -/
def Go (v86 : FVec F S1x2560 .f32) (M : FVec F S2560x2560 .f32) (n : ℕ) : Prop :=
  Scalar.cmpf .ogt (k1_pay4 (itK v86 M n) (itK v86 M (n + 1))) (Scalar.ofBits .f32 0x00000000#32) = 1#1

/-- The iteration of block's step comes to rest: a step the test ends at gives the row of 2560 steps, and the test ends by
    then. -/
structure Settles (v86 : FVec F S1x2560 .f32) (M : FVec F S2560x2560 .f32) : Prop where
  stop : ∀ n ≤ 2560, ¬ Go v86 M n → itK v86 M (n + 1) = itK v86 M 2560
  last : ¬ Go v86 M 2560

/-! ### The loop on the iteration -/

/-- The whole of the scratch matrix, as the kernel's loads and stores name it. -/
abbrev rM : Rect S2560x2560 := Rect.unit (s := S2560x2560) ![0, 0] S2560x2560.size inb_S2560x2560_S2560x2560_0_0

/-- A load of the whole scratch matrix reads its contents. -/
theorem read_rM (f : (cc1_scratch1 : Ref sig .tc).ty.Contents (Elt F)) :
    ((Memref.whole cc1_scratch1).access rM : View sig .tc _ _ _).read (Elt F) f = f :=
  Memref.read_access_unit_zero (Elt F) cc1_scratch1 (funext fun a => by fin_cases a <;> rfl) _ f

/-- A store of the whole scratch matrix leaves what was stored. -/
theorem write_rM (f w : (cc1_scratch1 : Ref sig .tc).ty.Contents (Elt F)) :
    ((Memref.whole cc1_scratch1).access rM : View sig .tc _ _ _).write (Elt F) f w Finset.univ = w :=
  Memref.write_access_unit_zero_univ (Elt F) cc1_scratch1 (funext fun a => by fin_cases a <;> rfl) _ f w

/-- The loop on the iteration, entered at step `n`: it ends with the row of 2560 steps. -/
theorem while_spec (c : Dev nD) (k : Fin k1_t1_loop.trips) (h7 : (Memref.whole cc1_scratch1).IsWhole)
    (v86 : FVec F S1x2560 .f32) (M : FVec F S2560x2560 .f32) (hs : Settles v86 M) :
    ∀ d n, n + d = 2560 → ∀ Q : FVec F S1x2560 .f32 × FVec F S1x2560 .f32 → sProp 𝕄,
      iprop((((c : Thread nD τ).loc cc1_scratch1) ↦{fullShare} (M : Buf (Elt F) ((c : Thread nD τ).loc cc1_scratch1)))
        ∗ (∀ o, (((c : Thread nD τ).loc cc1_scratch1) ↦{fullShare} (M : Buf (Elt F) ((c : Thread nD τ).loc cc1_scratch1))) -∗ Q (o, itK v86 M 2560)))
      ⊢ wp frame (wpE (defs₀ (F := F)) 𝒱₀ (c : Thread nD τ) (some d)) Set.univ
          (cc1_while1 k (Memref.whole cc1_scratch1) h7 v86 (itK v86 M n) (itK v86 M (n + 1))) Q := by
  intro d
  induction d with
  | zero =>
    intro n hn Q
    obtain rfl : n = 2560 := by omega
    simp only [cc1_while1_eq_skeleton]; unfold cc1_while1_skel
    have h0 := hs.last
    unfold Go at h0
    simp only [h0, ↓reduceIte, Prog.pure_eq_ret]
    iintro ⟨H, HK⟩
    rw [wp_ret]; imodintro
    rw [hs.stop 2560 le_rfl hs.last]
    iapply HK $$ %_; iexact H
  | succ d ih =>
    intro n hn Q
    simp only [cc1_while1_eq_skeleton]; unfold cc1_while1_skel
    by_cases hg : Go v86 M n
    · have h1 := hg
      unfold Go at h1
      simp only [h1, ↓reduceIte, Prog.lift, Prog.bind_op, Prog.bind_ret, Prog.pure_eq_ret]
      iintro ⟨H, HK⟩
      iapply (wp_load_rect 𝒱₀ (c : Thread nD τ) (some (d + 1)) Set.univ (m := Memref.whole cc1_scratch1) (r := rM) (Finset.subset_univ _)) $$ H; iintro H
      erw [read_rM]
      iapply (wp_call 𝒱₀ (c : Thread nD τ) (some (d + 1)) Set.univ d (fun u hu => by cases hu; exact Nat.lt_succ_self d))
      have hw : ∀ Q : FVec F S1x2560 .f32 × FVec F S1x2560 .f32 → sProp 𝕄, _ ⊢ wp frame (wpE (defs₀ (F := F)) 𝒱₀ (c : Thread nD τ) (some d)) Set.univ
          (defs₀ (F := F) .tc 3 ⟨k, Memref.whole cc1_scratch1, h7, v86, itK v86 M (n + 1), k1_pay5 v86 (itK v86 M (n + 1)) M⟩) Q :=
        fun Q => ih (n + 1) (by omega) Q
      iapply (hw _)
      isplitl [H]; · iexact H
      iintro %o H
      rw [wp_ret]; imodintro
      iapply HK $$ %_; iexact H
    · have h1 := hg
      unfold Go at h1
      simp only [h1, ↓reduceIte, Prog.pure_eq_ret]
      iintro ⟨H, HK⟩
      rw [wp_ret]; imodintro
      rw [hs.stop n (by omega) hg]
      iapply HK $$ %_; iexact H

/-! ### The trips of the two loops over blocks -/

/-- The outer loop makes eight trips, -/
theorem trips1 : k1_t1_loop.trips = 8 := by decide

/-- the inner loop of trip `k` makes `k` trips, -/
theorem trips2 : ∀ k : Fin k1_t1_loop.trips, (k1_t2_loop k).trips = k.val := by decide

/-- and its remainder loop none. -/
theorem trips3 : ∀ k : Fin k1_t1_loop.trips, (k1_t3_loop k).trips = 0 := by decide

/-- The inner loop's trip `j` names row `j`. -/
theorem off2_eq : ∀ (k : Fin k1_t1_loop.trips) (j : Fin (k1_t2_loop k).trips), k1_off2 k j = ![j.val, 0] := by decide

/-- The outer loop's trip `k` names row `k`. -/
theorem off1_eq : ∀ (k : Fin k1_t1_loop.trips), k1_off1 k = ![k.val, 0] := by decide

section Body

variable (c : Dev nD)
variable (X0 : (cc1_stg0_0 : Ref sig .tc).ty.Contents (Elt F)) (X1 : (cc1_stg1_0 : Ref sig .tc).ty.Contents (Elt F))
variable (X2 : (cc1_stg2_0 : Ref sig .tc).ty.Contents (Elt F)) (X3 : (cc1_stg3_0 : Ref sig .tc).ty.Contents (Elt F))
variable (X4 : (cc1_stg4_0 : Ref sig .tc).ty.Contents (Elt F))

/-- Row `j` of the five operand blocks. -/
abbrev row0 : ℕ → FVec F S1x2560 .f32 := rowOf (Memref.whole cc1_stg0_0) X0
abbrev row1 : ℕ → FVec F S1x2560 .f32 := rowOf (Memref.whole cc1_stg1_0) X1
abbrev row2 : ℕ → FVec F S1x2560 .f32 := rowOf (Memref.whole cc1_stg2_0) X2
abbrev row3 : ℕ → FVec F S1x2560 .f32 := rowOf (Memref.whole cc1_stg3_0) X3
abbrev row4 : ℕ → FVec F S1x2560 .f32 := rowOf (Memref.whole cc1_stg4_0) X4

/-- The four box operands' staging buffers. -/
def boxes : sProp 𝕄 :=
  iprop((((c : Thread nD τ).loc cc1_stg0_0) ↦{fullShare} (X0 : Buf (Elt F) ((c : Thread nD τ).loc cc1_stg0_0)))
    ∗ (((c : Thread nD τ).loc cc1_stg1_0) ↦{fullShare} (X1 : Buf (Elt F) ((c : Thread nD τ).loc cc1_stg1_0)))
    ∗ (((c : Thread nD τ).loc cc1_stg2_0) ↦{fullShare} (X2 : Buf (Elt F) ((c : Thread nD τ).loc cc1_stg2_0)))
    ∗ (((c : Thread nD τ).loc cc1_stg3_0) ↦{fullShare} (X3 : Buf (Elt F) ((c : Thread nD τ).loc cc1_stg3_0))))

/-- The keep rows' buffer before trip `k`: the first `k` rows are the keep rows. -/
def keepBuf (k : ℕ) : sProp 𝕄 :=
  iprop(∃ f : Buf (Elt F) ((c : Thread nD τ).loc cc1_scratch0),
    (((c : Thread nD τ).loc cc1_scratch0) ↦{fullShare} f)
    ∗ ⌜∀ j < k, rowOf (Memref.whole cc1_scratch0) f j = keeps (row0 X0) (row1 X1) (row2 X2) (row3 X3) k j⌝)

/-- The result's buffer before trip `k`: the first `k` rows are the result's. -/
def outBuf (k : ℕ) : sProp 𝕄 :=
  iprop(∃ f : Buf (Elt F) ((c : Thread nD τ).loc cc1_stg5_0),
    (((c : Thread nD τ).loc cc1_stg5_0) ↦{fullShare} f)
    ∗ ⌜∀ j < k, rowOf (Memref.whole cc1_stg5_0) f j = outRow (row0 X0) (row1 X1) (row2 X2) (row3 X3) (row4 X4) j⌝)

/-- The inner loop's invariant: the boxes and the keep rows as they are, the carried row the count so far. -/
def inv2 (k : ℕ) (j : ℕ) (acc : FVec F S1x2560 .f32) : sProp 𝕄 :=
  iprop(boxes c X0 X1 X2 X3 ∗ keepBuf c X0 X1 X2 X3 k
    ∗ ⌜acc = accK (row0 X0) (row1 X1) (row2 X2) (row3 X3) (keeps (row0 X0) (row1 X1) (row2 X2) (row3 X3) k) k j⌝)

variable (h0 : (Memref.whole cc1_stg0_0).IsWhole) (h1 : (Memref.whole cc1_stg1_0).IsWhole) (h2 : (Memref.whole cc1_stg2_0).IsWhole)
  (h3 : (Memref.whole cc1_stg3_0).IsWhole) (h4 : (Memref.whole cc1_stg4_0).IsWhole) (h5 : (Memref.whole cc1_stg5_0).IsWhole)
  (h6 : (Memref.whole cc1_scratch0).IsWhole) (h7 : (Memref.whole cc1_scratch1).IsWhole)

/-- One trip of the inner loop adds the count of block `j`. -/
theorem trip2 (k : Fin k1_t1_loop.trips) (j : Fin (k1_t2_loop k).trips) (acc : FVec F S1x2560 .f32) (z o : BitVec 32) :
    inv2 c X0 X1 X2 X3 k.val j.val acc
      ⊢ wp frame (wpE (defs₀ (F := F)) 𝒱₀ (c : Thread nD τ) none) Set.univ
          (k1_t2_body (Memref.whole cc1_stg0_0) h0 (Memref.whole cc1_stg1_0) h1 (Memref.whole cc1_stg2_0) h2 (Memref.whole cc1_stg3_0) h3
            (Memref.whole cc1_stg4_0) h4 (Memref.whole cc1_stg5_0) h5 (Memref.whole cc1_scratch0) h6 (Memref.whole cc1_scratch1) h7
            z o k (row0 X0 k.val) (row1 X1 k.val) (row2 X2 k.val) (row3 X3 k.val) j acc)
          (inv2 c X0 X1 X2 X3 k.val (j.val + 1)) := by
  have hk : k.val < 8 := trips1 ▸ k.isLt
  have hjk : j.val < k.val := trips2 k ▸ j.isLt
  have hj : j.val < 8 := by omega
  unfold inv2 boxes keepBuf k1_t2_body
  simp only [k1_part1_eq_skeleton]; unfold k1_part1_skel
  simp only [Prog.lift, Prog.bind_op, Prog.bind_ret, Prog.pure_eq_ret]
  iintro ⟨⟨H0, H1, H2, H3⟩, ⟨%f6, H6, %hf6⟩, %hacc⟩
  iapply (wp_load_rect 𝒱₀ (c : Thread nD τ) none Set.univ (m := Memref.whole cc1_stg0_0)
    (r := Rect.unit (s := S8x2560) (k1_off2 k j) S1x2560.size (k1_off2_inb k j)) (Finset.subset_univ _)) $$ H0; iintro H0
  iapply (wp_load_rect 𝒱₀ (c : Thread nD τ) none Set.univ (m := Memref.whole cc1_stg1_0)
    (r := Rect.unit (s := S8x2560) (k1_off2 k j) S1x2560.size (k1_off2_inb k j)) (Finset.subset_univ _)) $$ H1; iintro H1
  iapply (wp_load_rect 𝒱₀ (c : Thread nD τ) none Set.univ (m := Memref.whole cc1_stg2_0)
    (r := Rect.unit (s := S8x2560) (k1_off2 k j) S1x2560.size (k1_off2_inb k j)) (Finset.subset_univ _)) $$ H2; iintro H2
  iapply (wp_load_rect 𝒱₀ (c : Thread nD τ) none Set.univ (m := Memref.whole cc1_stg3_0)
    (r := Rect.unit (s := S8x2560) (k1_off2 k j) S1x2560.size (k1_off2_inb k j)) (Finset.subset_univ _)) $$ H3; iintro H3
  iapply (wp_load_rect 𝒱₀ (c : Thread nD τ) none Set.univ (m := Memref.whole cc1_scratch0)
    (r := Rect.unit (s := S8x2560) (k1_off2 k j) S1x2560.size (k1_off2_inb k j)) (Finset.subset_univ _)) $$ H6; iintro H6
  have e0 := read_row (Memref.whole cc1_stg0_0) X0 (off2_eq k j) hj (k1_off2_inb k j)
  have e1 := read_row (Memref.whole cc1_stg1_0) X1 (off2_eq k j) hj (k1_off2_inb k j)
  have e2 := read_row (Memref.whole cc1_stg2_0) X2 (off2_eq k j) hj (k1_off2_inb k j)
  have e3 := read_row (Memref.whole cc1_stg3_0) X3 (off2_eq k j) hj (k1_off2_inb k j)
  have e6 := read_row (Memref.whole cc1_scratch0) f6 (off2_eq k j) hj (k1_off2_inb k j)
  rw [hf6 j.val hjk] at e6
  rw [wp_ret]; imodintro
  isplitl [H0 H1 H2 H3]
  · isplitl [H0]; · iexact H0
    isplitl [H1]; · iexact H1
    isplitl [H2]; · iexact H2
    iexact H3
  isplitl [H6]
  · iexists f6; isplitl [H6]; · iexact H6
    ipureintro; exact hf6
  ipureintro
  subst hacc
  erw [e0, e1, e2, e3, e6]
  rfl

/-- The first part of a trip of the outer loop: the block's rows and the count of the earlier blocks' suppressions. -/
theorem part3 (k : Fin k1_t1_loop.trips) (z o : BitVec 32)
    (Q : (Σ' (arg8 : BitVec 32) (v17 : FVec F S2560 .f32) (v24 : FVec F S2560 .f32) (v37 : FVec F S2560 .f32) (v42 : FVec F S2560x2560 .f32) (v47 : FVec F S2560x2560 .f32), FVec F S2560x2560 .f32) → sProp 𝕄) :
    iprop(boxes c X0 X1 X2 X3 ∗ keepBuf c X0 X1 X2 X3 k.val
      ∗ (∀ i, boxes c X0 X1 X2 X3 ∗ keepBuf c X0 X1 X2 X3 k.val -∗
          Q ⟨i, k1_pay23 (row3 X3 k.val), k1_pay24 (row0 X0 k.val) (row1 X1 k.val) (row2 X2 k.val) (row3 X3 k.val),
            k1_pay28 (accK (row0 X0) (row1 X1) (row2 X2) (row3 X3) (keeps (row0 X0) (row1 X1) (row2 X2) (row3 X3) k) k k),
            k1_pay29 (row0 X0 k.val), k1_pay30 (row1 X1 k.val), k1_pay31 (row2 X2 k.val)⟩))
      ⊢ wp frame (wpE (defs₀ (F := F)) 𝒱₀ (c : Thread nD τ) none) Set.univ
          (k1_part3 (Memref.whole cc1_stg0_0) h0 (Memref.whole cc1_stg1_0) h1 (Memref.whole cc1_stg2_0) h2 (Memref.whole cc1_stg3_0) h3
            (Memref.whole cc1_stg4_0) h4 (Memref.whole cc1_stg5_0) h5 (Memref.whole cc1_scratch0) h6 (Memref.whole cc1_scratch1) h7
            z o k) Q := by
  have hk : k.val < 8 := trips1 ▸ k.isLt
  simp only [k1_part3_eq_skeleton]; unfold k1_part3_skel
  simp only [Prog.lift, Prog.bind_op, Prog.bind_ret, Prog.pure_eq_ret]
  iintro ⟨Hbox, Hkeep, HQ⟩
  unfold boxes
  icases Hbox with ⟨H0, H1, H2, H3⟩
  iapply (wp_load_rect 𝒱₀ (c : Thread nD τ) none Set.univ (m := Memref.whole cc1_stg0_0)
    (r := Rect.unit (s := S8x2560) (k1_off1 k) S1x2560.size (k1_off1_inb k)) (Finset.subset_univ _)) $$ H0; iintro H0
  iapply (wp_load_rect 𝒱₀ (c : Thread nD τ) none Set.univ (m := Memref.whole cc1_stg1_0)
    (r := Rect.unit (s := S8x2560) (k1_off1 k) S1x2560.size (k1_off1_inb k)) (Finset.subset_univ _)) $$ H1; iintro H1
  iapply (wp_load_rect 𝒱₀ (c : Thread nD τ) none Set.univ (m := Memref.whole cc1_stg2_0)
    (r := Rect.unit (s := S8x2560) (k1_off1 k) S1x2560.size (k1_off1_inb k)) (Finset.subset_univ _)) $$ H2; iintro H2
  iapply (wp_load_rect 𝒱₀ (c : Thread nD τ) none Set.univ (m := Memref.whole cc1_stg3_0)
    (r := Rect.unit (s := S8x2560) (k1_off1 k) S1x2560.size (k1_off1_inb k)) (Finset.subset_univ _)) $$ H3; iintro H3
  have e0 := read_row (Memref.whole cc1_stg0_0) X0 (off1_eq k) hk (k1_off1_inb k)
  have e1 := read_row (Memref.whole cc1_stg1_0) X1 (off1_eq k) hk (k1_off1_inb k)
  have e2 := read_row (Memref.whole cc1_stg2_0) X2 (off1_eq k) hk (k1_off1_inb k)
  have e3 := read_row (Memref.whole cc1_stg3_0) X3 (off1_eq k) hk (k1_off1_inb k)
  erw [e0, e1, e2, e3]
  iapply (Scf.wp_for_bind frame (wpE (defs₀ (F := F)) 𝒱₀ (c : Thread nD τ) none) Set.univ _ _ _ (k1_t2_ok k) _ _
    (inv2 c X0 X1 X2 X3 k.val) (fun j acc => trip2 c X0 X1 X2 X3 h0 h1 h2 h3 h4 h5 h6 h7 k j acc z o)) $$ [H0 H1 H2 H3 Hkeep]
  · unfold inv2 boxes
    isplitl [H0 H1 H2 H3]
    · isplitl [H0]; · iexact H0
      isplitl [H1]; · iexact H1
      isplitl [H2]; · iexact H2
      iexact H3
    isplitl [Hkeep]; · iexact Hkeep
    ipureintro; rfl
  iintro %acc Hinv
  iapply (Scf.wp_for_bind frame (wpE (defs₀ (F := F)) 𝒱₀ (c : Thread nD τ) none) Set.univ _ _ _ (k1_t3_ok k) _ _
    (fun _ a => inv2 c X0 X1 X2 X3 k.val k.val a) (fun j _ => absurd (lt_of_lt_of_eq j.isLt (trips3 k)) (Nat.not_lt_zero _))) $$ [Hinv]
  · rw [show Scf.trips (k1_t2_loop k).lb (k1_t2_loop k).ub (k1_t2_loop k).st = k.val from trips2 k]
    iexact Hinv
  iintro %acc2 Hinv
  unfold inv2
  icases Hinv with ⟨Hbox, Hkeep, %hacc⟩
  subst hacc
  rw [wp_ret]; imodintro
  iapply HQ $$ %_
  unfold boxes
  isplitl [Hbox]; · iexact Hbox
  iexact Hkeep

/-- The second part: the matrix of the suppressions inside the block, and the iteration to rest. -/
theorem part4 (k : Fin k1_t1_loop.trips) (i : BitVec 32)
    (hs : Settles (base (row0 X0) (row1 X1) (row2 X2) (row3 X3) (keeps (row0 X0) (row1 X1) (row2 X2) (row3 X3) k) k) (mat (row0 X0) (row1 X1) (row2 X2) (row3 X3) k))
    (Q : FVec F S2560 .f32 → sProp 𝕄) :
    iprop((∃ f : Buf (Elt F) ((c : Thread nD τ).loc cc1_scratch1), ((c : Thread nD τ).loc cc1_scratch1) ↦{fullShare} f)
      ∗ keepBuf c X0 X1 X2 X3 k.val
      ∗ ((∃ f : Buf (Elt F) ((c : Thread nD τ).loc cc1_scratch1), ((c : Thread nD τ).loc cc1_scratch1) ↦{fullShare} f)
          ∗ keepBuf c X0 X1 X2 X3 k.val -∗
          Q (keepRow (row0 X0) (row1 X1) (row2 X2) (row3 X3) (keeps (row0 X0) (row1 X1) (row2 X2) (row3 X3) k) k)))
      ⊢ wp frame (wpE (defs₀ (F := F)) 𝒱₀ (c : Thread nD τ) none) Set.univ
          (k1_part4 (Memref.whole cc1_stg0_0) h0 (Memref.whole cc1_stg1_0) h1 (Memref.whole cc1_stg2_0) h2 (Memref.whole cc1_stg3_0) h3
            (Memref.whole cc1_stg4_0) h4 (Memref.whole cc1_stg5_0) h5 (Memref.whole cc1_scratch0) h6 (Memref.whole cc1_scratch1) h7
            (k1_pay1 (F := F)) k i (k1_pay23 (row3 X3 k.val)) (k1_pay24 (row0 X0 k.val) (row1 X1 k.val) (row2 X2 k.val) (row3 X3 k.val))
            (k1_pay28 (accK (row0 X0) (row1 X1) (row2 X2) (row3 X3) (keeps (row0 X0) (row1 X1) (row2 X2) (row3 X3) k) k k))
            (k1_pay29 (row0 X0 k.val)) (k1_pay30 (row1 X1 k.val)) (k1_pay31 (row2 X2 k.val))) Q := by
  simp only [k1_part4_eq_skeleton]; unfold k1_part4_skel
  simp only [Prog.lift, Prog.bind_op, Prog.bind_ret, Prog.pure_eq_ret]
  iintro ⟨⟨%f7, H7⟩, Hkeep, HQ⟩
  iapply (wp_load_rect 𝒱₀ (c : Thread nD τ) none Set.univ (m := Memref.whole cc1_scratch1) (r := rM) (Finset.subset_univ _)) $$ H7; iintro H7
  iapply (wp_store 𝒱₀ (c : Thread nD τ) none Set.univ (m := Memref.whole cc1_scratch1) (r := rM) (Mk := Finset.univ) (Finset.subset_univ _)) $$ H7; iintro H7
  erw [write_rM]
  iapply (wp_load_rect 𝒱₀ (c : Thread nD τ) none Set.univ (m := Memref.whole cc1_scratch1) (r := rM) (Finset.subset_univ _)) $$ H7; iintro H7
  erw [read_rM]
  iapply (wp_call 𝒱₀ (c : Thread nD τ) none Set.univ 2560 (fun u hu => nomatch hu))
  have hw : ∀ Q : FVec F S1x2560 .f32 × FVec F S1x2560 .f32 → sProp 𝕄, _ ⊢ wp frame (wpE (defs₀ (F := F)) 𝒱₀ (c : Thread nD τ) (some 2560)) Set.univ
      (defs₀ (F := F) .tc 3 ⟨k, Memref.whole cc1_scratch1, h7, base (row0 X0) (row1 X1) (row2 X2) (row3 X3) (keeps (row0 X0) (row1 X1) (row2 X2) (row3 X3) k) k,
        base (row0 X0) (row1 X1) (row2 X2) (row3 X3) (keeps (row0 X0) (row1 X1) (row2 X2) (row3 X3) k) k,
        k1_pay34 (k1_pay28 (accK (row0 X0) (row1 X1) (row2 X2) (row3 X3) (keeps (row0 X0) (row1 X1) (row2 X2) (row3 X3) k) k k))
          (mat (row0 X0) (row1 X1) (row2 X2) (row3 X3) k)⟩) Q :=
    fun Q => while_spec c k h7 _ _ hs 2560 0 rfl Q
  iapply (hw _)
  isplitl [H7]; · iexact H7
  iintro %oo H7
  unfold keepBuf
  icases Hkeep with ⟨%f6, H6, %hf6⟩
  iapply (wp_load_rect 𝒱₀ (c : Thread nD τ) none Set.univ (m := Memref.whole cc1_scratch0)
    (r := Rect.unit (s := S8x2560) (k1_off1 k) S1x2560.size (k1_off1_inb k)) (Finset.subset_univ _)) $$ H6; iintro H6
  rw [wp_ret]; imodintro
  unfold keepRow
  dsimp only
  iapply HQ
  isplitl [H7]; · iexists _; iexact H7
  iexists f6; isplitl [H6]; · iexact H6
  ipureintro; exact hf6

/-- The outer loop's invariant before trip `k`. -/
def inv1 (k : ℕ) : sProp 𝕄 :=
  iprop(boxes c X0 X1 X2 X3 ∗ (((c : Thread nD τ).loc cc1_stg4_0) ↦{fullShare} (X4 : Buf (Elt F) ((c : Thread nD τ).loc cc1_stg4_0)))
    ∗ keepBuf c X0 X1 X2 X3 k ∗ outBuf c X0 X1 X2 X3 X4 k
    ∗ (∃ f : Buf (Elt F) ((c : Thread nD τ).loc cc1_scratch1), ((c : Thread nD τ).loc cc1_scratch1) ↦{fullShare} f))

/-- One trip of the outer loop stores row `k` of the keep rows and of the result. -/
theorem trip1 (k : Fin k1_t1_loop.trips)
    (hs : Settles (base (row0 X0) (row1 X1) (row2 X2) (row3 X3) (keeps (row0 X0) (row1 X1) (row2 X2) (row3 X3) k) k) (mat (row0 X0) (row1 X1) (row2 X2) (row3 X3) k))
    (u : Unit) :
    inv1 c X0 X1 X2 X3 X4 k.val
      ⊢ wp frame (wpE (defs₀ (F := F)) 𝒱₀ (c : Thread nD τ) none) Set.univ
          (k1_t1_body (Memref.whole cc1_stg0_0) h0 (Memref.whole cc1_stg1_0) h1 (Memref.whole cc1_stg2_0) h2 (Memref.whole cc1_stg3_0) h3
            (Memref.whole cc1_stg4_0) h4 (Memref.whole cc1_stg5_0) h5 (Memref.whole cc1_scratch0) h6 (Memref.whole cc1_scratch1) h7 k u)
          (fun _ => inv1 c X0 X1 X2 X3 X4 (k.val + 1)) := by
  have hk : k.val < 8 := trips1 ▸ k.isLt
  unfold inv1 k1_t1_body
  rw [wp_bind]
  iintro ⟨Hbox, H4, Hkeep, Hout, H7⟩
  iapply (part3 c X0 X1 X2 X3 h0 h1 h2 h3 h4 h5 h6 h7 k 0#32 1#32)
  isplitl [Hbox]; · iexact Hbox
  isplitl [Hkeep]; · iexact Hkeep
  iintro %i ⟨Hbox, Hkeep⟩
  rw [wp_bind]
  iapply (part4 c X0 X1 X2 X3 h0 h1 h2 h3 h4 h5 h6 h7 k i hs)
  isplitl [H7]; · iexact H7
  isplitl [Hkeep]; · iexact Hkeep
  iintro ⟨H7, Hkeep⟩
  simp only [Prog.lift, Prog.bind_op, Prog.bind_ret, Prog.pure_eq_ret]
  unfold keepBuf outBuf
  icases Hkeep with ⟨%f6, H6, %hf6⟩
  icases Hout with ⟨%f5, H5, %hf5⟩
  iapply (wp_store 𝒱₀ (c : Thread nD τ) none Set.univ (m := Memref.whole cc1_scratch0)
    (r := Rect.unit (s := S8x2560) (k1_off1 k) S1x2560.size (k1_off1_inb k)) (Mk := Finset.univ) (Finset.subset_univ _)) $$ H6; iintro H6
  iapply (wp_load_rect 𝒱₀ (c : Thread nD τ) none Set.univ (m := Memref.whole cc1_stg4_0)
    (r := Rect.unit (s := S8x2560) (k1_off1 k) S1x2560.size (k1_off1_inb k)) (Finset.subset_univ _)) $$ H4; iintro H4
  iapply (wp_load_rect 𝒱₀ (c : Thread nD τ) none Set.univ (m := Memref.whole cc1_stg5_0)
    (r := Rect.unit (s := S8x2560) (k1_off1 k) S1x2560.size (k1_off1_inb k)) (Finset.subset_univ _)) $$ H5; iintro H5
  have e4 := read_row (Memref.whole cc1_stg4_0) X4 (off1_eq k) hk (k1_off1_inb k)
  erw [e4]
  iapply (wp_store 𝒱₀ (c : Thread nD τ) none Set.univ (m := Memref.whole cc1_stg5_0)
    (r := Rect.unit (s := S8x2560) (k1_off1 k) S1x2560.size (k1_off1_inb k)) (Mk := Finset.univ) (Finset.subset_univ _)) $$ H5; iintro H5
  rw [wp_ret]; imodintro
  isplitl [Hbox]; · iexact Hbox
  isplitl [H4]; · iexact H4
  isplitl [H6]
  · iexists _; isplitl [H6]; · iexact H6
    ipureintro
    intro j hj
    by_cases hjk : j = k.val
    · subst hjk
      rw [keeps_succ_self]
      exact row_write_same (Memref.whole cc1_scratch0) f6 (off1_eq k) hk (k1_off1_inb k) _
    · rw [keeps_succ_lt _ _ _ _ hjk, ← hf6 j (by omega)]
      exact row_write_ne (Memref.whole cc1_scratch0) f6 (off1_eq k) hk hjk (k1_off1_inb k) _
  isplitl [H5]
  · iexists _; isplitl [H5]; · iexact H5
    ipureintro
    intro j hj
    by_cases hjk : j = k.val
    · subst hjk
      exact row_write_same (Memref.whole cc1_stg5_0) f5 (off1_eq k) hk (k1_off1_inb k) _
    · rw [← hf5 j (by omega)]
      exact row_write_ne (Memref.whole cc1_stg5_0) f5 (off1_eq k) hk hjk (k1_off1_inb k) _
  iexact H7

/-- The kernel's one point: with every block's iteration coming to rest, the result's rows are the result's. -/
theorem body_sound
    (hs : ∀ k < 8, Settles (base (row0 X0) (row1 X1) (row2 X2) (row3 X3) (keeps (row0 X0) (row1 X1) (row2 X2) (row3 X3) k) k) (mat (row0 X0) (row1 X1) (row2 X2) (row3 X3) k))
    (Q : PUnit → sProp 𝕄) :
    iprop(inv1 c X0 X1 X2 X3 X4 0 ∗ (inv1 c X0 X1 X2 X3 X4 8 -∗ Q ⟨⟩))
      ⊢ wp frame (wpE (defs₀ (F := F)) 𝒱₀ (c : Thread nD τ) none) Set.univ
          (cc1__nms_body (Memref.whole cc1_stg0_0) h0 (Memref.whole cc1_stg1_0) h1 (Memref.whole cc1_stg2_0) h2 (Memref.whole cc1_stg3_0) h3
            (Memref.whole cc1_stg4_0) h4 (Memref.whole cc1_stg5_0) h5 (Memref.whole cc1_scratch0) h6 (Memref.whole cc1_scratch1) h7) Q := by
  simp only [cc1__nms_body_eq_skeleton]; unfold cc1__nms_body_skel
  iintro ⟨Hinv, HQ⟩
  iapply (Scf.wp_for_bind frame (wpE (defs₀ (F := F)) 𝒱₀ (c : Thread nD τ) none) Set.univ _ _ _ k1_t1_ok _ _
    (fun k _ => inv1 c X0 X1 X2 X3 X4 k)
    (fun k u => trip1 c X0 X1 X2 X3 X4 h0 h1 h2 h3 h4 h5 h6 h7 k (hs k.val (trips1 ▸ k.isLt)) u)) $$ [Hinv]
  · iexact Hinv
  iintro %u Hinv
  have ht : Scf.trips k1_t1_loop.lb k1_t1_loop.ub k1_t1_loop.st = 8 := trips1
  rw [ht]
  simp only [Prog.pure_eq_ret]
  rw [wp_ret]; imodintro
  iapply HQ; iexact Hinv

end Body

end Nms

end Cert.Proof
-- ==== Proof.Region.lean ====
/-
  The tensor core's call between the two sparse-core calls: its proof data over the contents of the core's buffers at
  its entry, the kernel's obligation from the step-by-step reading, and the call as a rule from every unscoped buffer
  at its contents to the same with the result's array at the kernel's value.
-/
module

public import proofs.«01_k».proof.Proof.NmsBody
public import Idealize.ShloMosaic.Lib.Pipeline.ValueKit
public import Idealize.ShloMosaic.Lib.Pipeline.RegionsLoop

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig (SparseCore.Cfg.HIx 2) (Elt F) ℕ UU ℕ

namespace Nms

/-- Row `j` of an eight-row array. -/
def row8 (X : FVec F S8x2560 .f32) (j : ℕ) : FVec F S1x2560 .f32 :=
  if h : j < 8 then fun x => X (ValueIdx.ix2 (⟨j, h⟩ : Fin 8) (x 1 : Fin 2560)) else k1_pay25 (F := F)

/-- The element of an eight-row array that the row-`j` rectangle reads at `x`. -/
theorem emb_row8 {j : ℕ} (h : j < 8) (x : S1x2560.Idx) :
    (Rect.unit (s := S8x2560) ![j, 0] S1x2560.size (row_inb h)).emb x = ValueIdx.ix2 (⟨j, h⟩ : Fin 8) (x 1 : Fin 2560) := by
  funext a
  refine Fin.ext ?_
  match a with
  | ⟨0, _⟩ =>
    have : (x 0).val < 1 := (x 0).isLt
    show j + 1 * (x 0).val = j
    omega
  | ⟨1, _⟩ => show 0 + 1 * (x 1).val = (x 1).val; omega

/-- Reading row `j` through staging buffer 0 reads the row of its contents. -/
theorem rowOf_stg0 (X : FVec F S8x2560 .f32) (j : ℕ) : rowOf (Memref.whole cc1_stg0_0) X j = row8 X j := by
  unfold rowOf row8
  split
  · rename_i h
    funext x
    rw [View.read_apply]
    exact congrArg X (emb_row8 h x)
  · rfl

/-- Reading row `j` through staging buffer 1 reads the row of its contents. -/
theorem rowOf_stg1 (X : FVec F S8x2560 .f32) (j : ℕ) : rowOf (Memref.whole cc1_stg1_0) X j = row8 X j := by
  unfold rowOf row8
  split
  · rename_i h
    funext x
    rw [View.read_apply]
    exact congrArg X (emb_row8 h x)
  · rfl

/-- Reading row `j` through staging buffer 2 reads the row of its contents. -/
theorem rowOf_stg2 (X : FVec F S8x2560 .f32) (j : ℕ) : rowOf (Memref.whole cc1_stg2_0) X j = row8 X j := by
  unfold rowOf row8
  split
  · rename_i h
    funext x
    rw [View.read_apply]
    exact congrArg X (emb_row8 h x)
  · rfl

/-- Reading row `j` through staging buffer 3 reads the row of its contents. -/
theorem rowOf_stg3 (X : FVec F S8x2560 .f32) (j : ℕ) : rowOf (Memref.whole cc1_stg3_0) X j = row8 X j := by
  unfold rowOf row8
  split
  · rename_i h
    funext x
    rw [View.read_apply]
    exact congrArg X (emb_row8 h x)
  · rfl

/-- Reading row `j` through staging buffer 4 reads the row of its contents. -/
theorem rowOf_stg4 (X : FVec F S8x2560 .f32) (j : ℕ) : rowOf (Memref.whole cc1_stg4_0) X j = row8 X j := by
  unfold rowOf row8
  split
  · rename_i h
    funext x
    rw [View.read_apply]
    exact congrArg X (emb_row8 h x)
  · rfl

/-- Reading row `j` through staging buffer 5 reads the row of its contents. -/
theorem rowOf_stg5 (X : FVec F S8x2560 .f32) (j : ℕ) : rowOf (Memref.whole cc1_stg5_0) X j = row8 X j := by
  unfold rowOf row8
  split
  · rename_i h
    funext x
    rw [View.read_apply]
    exact congrArg X (emb_row8 h x)
  · rfl

/-- The result block of the tensor core's call, from its five operand arrays: row by row what the kernel stores. -/
def outBlk (X0 X1 X2 X3 X4 : FVec F S8x2560 .f32) : FVec F S8x2560 .f32 := fun x =>
  outRow (row8 X0) (row8 X1) (row8 X2) (row8 X3) (row8 X4) (x 0).val (ValueIdx.ix2 (0 : Fin 1) (x 1 : Fin 2560))

/-- Contents whose eight rows are the kernel's are the result block. -/
theorem eq_outBlk (X0 X1 X2 X3 X4 f : FVec F S8x2560 .f32)
    (h : ∀ j < 8, row8 f j = outRow (row8 X0) (row8 X1) (row8 X2) (row8 X3) (row8 X4) j) : f = outBlk X0 X1 X2 X3 X4 := by
  funext x
  have h0 : (x 0).val < 8 := (x 0).isLt
  unfold outBlk
  rw [← h _ h0]
  unfold row8
  rw [dif_pos h0]
  exact congrArg f (ValueIdx.eq_ix2 x)

/-- That every block's iteration comes to rest, for the five operand arrays. -/
def Rests (X0 X1 X2 X3 : FVec F S8x2560 .f32) : Prop :=
  ∀ k < 8, Settles (base (row8 X0) (row8 X1) (row8 X2) (row8 X3) (keeps (row8 X0) (row8 X1) (row8 X2) (row8 X3) k) k)
    (mat (row8 X0) (row8 X1) (row8 X2) (row8 X3) k)

/-! ### The proof data -/

section Data

/-- The contents of one core's buffers at the call's entry, per core. -/
abbrev Cont (F : FTy → Type) : Type := (c : Dev nD) → (b : Ref sig .tc) → Buf (Elt F) ((c : Thread nD τ).loc b)

variable (V : Cont F)

/-- The result block at the entry contents. -/
def res (c : Dev nD) : FVec F S8x2560 .f32 := outBlk (V c main_v14) (V c main_v17) (V c main_v20) (V c main_v23) (V c main_v26)

/-- The scratch between the ends of the call: the two scratch buffers at something. -/
abbrev Φc (c : Dev nD) : sProp 𝕄 := Pipeline.scopedRest (Ix := SparseCore.Cfg.HIx 2) (Name := ℕ) (U := UU) (Lvl := ℕ) (Val := Elt F) spec1 c

/-- The call's proof data: the operand arrays stay, the result's staging buffer is left at the result block, and the
    core owes the second sparse-core call throughout. -/
def dat (c : Dev nD) : Dat τ (Elt F) (SparseCore.Cfg.HIx 2) ℕ UU ℕ (cfg1 (F := F)) c where
  A w := V c (Pipeline.arrRef spec1 w)
  after w _ := match w with
    | ⟨0, _⟩ => V c main_v14
    | ⟨1, _⟩ => V c main_v17
    | ⟨2, _⟩ => V c main_v20
    | ⟨3, _⟩ => V c main_v23
    | ⟨4, _⟩ => V c main_v26
    | ⟨5, _⟩ => res V c
  Φ _ := Φc c
  q _ := fullShare
  owed _ := (K (F := F)).Otc c 1
  recorded _ := {p | (K (F := F)).lev (SparseCore.T c, p.1) p.2 ≤ 8}

/-- No pipeline of the program has a prefetched table. -/
abbrev adm : (p : Fin 1) → (pcfgs (F := F) p).Adm := fun p => (cfgs p).toPCfg_adm

/-- The proof data, of the program's one pipeline. -/
def pdats : (p : Fin 1) → (c : Dev nD) → Dat τ (Elt F) (SparseCore.Cfg.HIx 2) ℕ UU ℕ (Pipeline.pin (pcfgs (F := F)) adm p) c
  | ⟨0, _⟩ => fun c => dat V c

/-- The one block of a window over a whole array starts at the array's first element. -/
theorem emb_whole (inb) (y : S8x2560.Idx) : (Rect.unit (s := S8x2560) (fun a => (0 : ℕ) * S8x2560.size a) S8x2560.size inb).emb y = y := by
  funext a
  refine Fin.ext ?_
  show 0 * S8x2560.size a + 1 * (y a).val = (y a).val
  omega

/-- An operand's staging buffer holds the operand's array when the body runs. -/
theorem before0 (c : Dev nD) (d) : (dat V c).before 0 t1_0 d = V c main_v14 := by
  unfold Dat.before; rw [if_pos (fetch1_0 t1_0)]
  refine funext fun y => ?_
  exact congrArg (fun i : S8x2560.Idx => (V c main_v14 : FVec F S8x2560 .f32) i) (emb_whole _ y)
theorem before1 (c : Dev nD) (d) : (dat V c).before 1 t1_0 d = V c main_v17 := by
  unfold Dat.before; rw [if_pos (fetch1_1 t1_0)]
  refine funext fun y => ?_
  exact congrArg (fun i : S8x2560.Idx => (V c main_v17 : FVec F S8x2560 .f32) i) (emb_whole _ y)
theorem before2 (c : Dev nD) (d) : (dat V c).before 2 t1_0 d = V c main_v20 := by
  unfold Dat.before; rw [if_pos (fetch1_2 t1_0)]
  refine funext fun y => ?_
  exact congrArg (fun i : S8x2560.Idx => (V c main_v20 : FVec F S8x2560 .f32) i) (emb_whole _ y)
theorem before3 (c : Dev nD) (d) : (dat V c).before 3 t1_0 d = V c main_v23 := by
  unfold Dat.before; rw [if_pos (fetch1_3 t1_0)]
  refine funext fun y => ?_
  exact congrArg (fun i : S8x2560.Idx => (V c main_v23 : FVec F S8x2560 .f32) i) (emb_whole _ y)
theorem before4 (c : Dev nD) (d) : (dat V c).before 4 t1_0 d = V c main_v26 := by
  unfold Dat.before; rw [if_pos (fetch1_4 t1_0)]
  refine funext fun y => ?_
  exact congrArg (fun i : S8x2560.Idx => (V c main_v26 : FVec F S8x2560 .f32) i) (emb_whole _ y)

/-- The kernel's obligation at its one point. -/
theorem body_obligation (c : Dev nD) (hr : Rests (V c main_v14) (V c main_v17) (V c main_v20) (V c main_v23)) :
    BodyObligation (dat V c) (defs₀ (F := F)) 𝒱₀ (none : SparseCore.Cfg.HIx 2) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  unfold Φc
  rw [scopedRest1_eq]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  replace hf0 := hf0.trans (before0 V c d0)
  replace hf1 := hf1.trans (before1 V c d1)
  replace hf2 := hf2.trans (before2 V c d2)
  replace hf3 := hf3.trans (before3 V c d3)
  replace hf4 := hf4.trans (before4 V c d4)
  subst hf0 hf1 hf2 hf3 hf4
  have hr' : ∀ k < 8, Settles (base (row0 (V c main_v14)) (row1 (V c main_v17)) (row2 (V c main_v20)) (row3 (V c main_v23))
      (keeps (row0 (V c main_v14)) (row1 (V c main_v17)) (row2 (V c main_v20)) (row3 (V c main_v23)) k) k)
      (mat (row0 (V c main_v14)) (row1 (V c main_v17)) (row2 (V c main_v20)) (row3 (V c main_v23)) k) := by
    rw [show row0 (V c main_v14) = row8 (V c main_v14) from funext (rowOf_stg0 _), show row1 (V c main_v17) = row8 (V c main_v17) from funext (rowOf_stg1 _),
      show row2 (V c main_v20) = row8 (V c main_v20) from funext (rowOf_stg2 _), show row3 (V c main_v23) = row8 (V c main_v23) from funext (rowOf_stg3 _)]
    exact hr
  have hw : ∀ Q : PUnit → sProp 𝕄, _ ⊢ wp frame (wpE (defs₀ (F := F)) 𝒱₀ (c : Thread nD τ) none) Set.univ
      (defs₀ (F := F) Proc.tc 1 (t1_0, (cfg1 (F := F)).slots t1_0)) Q :=
    fun Q => body_sound c (V c main_v14) (V c main_v17) (V c main_v20) (V c main_v23) (V c main_v26) (hstage1_0 0) (hstage1_1 0) (hstage1_2 0)
      (hstage1_3 0) (hstage1_4 0) (hstage1_5 0) (Memref.isWhole_whole _) (Memref.isWhole_whole _) hr' Q
  iapply (hw _)
  unfold inv1 boxes keepBuf outBuf
  icases HΦ with ⟨⟨%g0, G0⟩, ⟨%g1, G1⟩⟩
  isplitl [H0 H1 H2 H3 H4 H5 G0 G1]
  · isplitl [H0 H1 H2 H3]
    · isplitl [H0]; · iexact H0
      isplitl [H1]; · iexact H1
      isplitl [H2]; · iexact H2
      iexact H3
    isplitl [H4]; · iexact H4
    isplitl [G0]
    · iexists g0; isplitl [G0]; · iexact G0
      ipureintro; exact fun j hj => absurd hj (Nat.not_lt_zero j)
    isplitl [H5]
    · iexists f5; isplitl [H5]; · iexact H5
      ipureintro; exact fun j hj => absurd hj (Nat.not_lt_zero j)
    iexists g1; iexact G1
  iintro ⟨⟨H0, H1, H2, H3⟩, H4, ⟨%k0, G0, -⟩, ⟨%o, H5, %ho⟩, ⟨%k1, G1⟩⟩
  have hout : o = res V c := by
    refine eq_outBlk _ _ _ _ _ _ fun j hj => ?_
    rw [← rowOf_stg5]
    refine (ho j hj).trans ?_
    rw [show row0 (V c main_v14) = row8 (V c main_v14) from funext (rowOf_stg0 _), show row1 (V c main_v17) = row8 (V c main_v17) from funext (rowOf_stg1 _),
      show row2 (V c main_v20) = row8 (V c main_v20) from funext (rowOf_stg2 _), show row3 (V c main_v23) = row8 (V c main_v23) from funext (rowOf_stg3 _),
      show row4 (V c main_v26) = row8 (V c main_v26) from funext (rowOf_stg4 _)]
  subst hout
  isplitl [G0 G1]
  · isplitl [G0]; · iexists k0; iexact G0
    iexists k1; iexact G1
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array after the call is the result block. -/
theorem arr_out (c : Dev nD) : (dat V c).arrAt 5 (cfg1 (F := F)).N = res V c := by
  refine (dat V c).arrAt_eq_of_after_last 5 t1_0 (by decide +kernel : win1_5.WholeAt t1_0) _ fun j => ?_
  show res V c _ = res V c j
  rfl

/-- The buffers' contents after the call: the result's array at the result block, all else as at the entry. -/
def Vp : Cont F := fun c => Function.update (V c) main_v27 (res V c)

variable (hr : ∀ c, Rests (V c main_v14) (V c main_v17) (V c main_v20) (V c main_v23))

set_option backward.isDefEq.respectTransparency.types false in
/-- The call over the thread state: every unscoped buffer at the contents, and the core owing the second sparse-core
    call with its waits recorded so far no later than the first one's. -/
def reg : Pipeline.RegionSeg (pcfgs (F := F)) adm (pdats V) (none : SparseCore.Cfg.HIx 2) defs₀ 𝒱₀ (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (body_obligation V c (hr c)).loose
  hwaits c := Pipeline.cellsWaits_of_cut (Pipeline.pin (pcfgs (F := F)) adm) (pdats V) none 0 c 8 ((K (F := F)).Otc c 1) (fun _ => rfl)
    (fun _ _ => Finset.mem_univ _) (fun _ _ => Nat.zero_le _) (fun g i h => ⟨Finset.mem_univ _, (K (F := F)).lev_of_Otc_pos h⟩)
  pre c := iprop(unscopedBufs c (V c) ∗ ∃ W, ⌜(K (F := F)).WBelow (SparseCore.T c) W 8⌝ ∗ owes (c : Thread nD τ) ((K (F := F)).Otc c 1) W)
  post c := iprop(unscopedBufs c (Vp V c) ∗ ∃ W, ⌜(K (F := F)).WBelow (SparseCore.T c) W 8⌝ ∗ owes (c : Thread nD τ) ((K (F := F)).Otc c 1) W)
  X _ := BI.emp
  Y _ := BI.emp
  Z c := iprop(Pipeline.unscopedRest (Ix := SparseCore.Cfg.HIx 2) (Name := ℕ) (U := UU) (Lvl := ℕ) spec1 c (V c))
  hentry c := by
    rw [Pipeline.ownSems0_none]
    have hsplit := Pipeline.arrays_of_unscopedBufs (p := 0) (pcfgs (F := F)) adm (pdats V) (launch1 (F := F)).win (launch1 (F := F)).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := SparseCore.Cfg.HIx 2) (Name := ℕ) (U := UU) (Lvl := ℕ) (launch1 (F := F)).win (launch1 (F := F)).arr_whole c
      (pdats V) ((pdats V 0 c).share_full fun _ => rfl) (V c) (Vp V c) ((pdats V 0 c).arrAt · (cfg1 (F := F)).N)
      (fun w => by
        fin_cases w
        · exact ((pdats V 0 c).arrAt_in 0 rfl _).trans (Function.update_of_ne (show main_v14 ≠ main_v27 by decide) _ _).symm
        · exact ((pdats V 0 c).arrAt_in 1 rfl _).trans (Function.update_of_ne (show main_v17 ≠ main_v27 by decide) _ _).symm
        · exact ((pdats V 0 c).arrAt_in 2 rfl _).trans (Function.update_of_ne (show main_v20 ≠ main_v27 by decide) _ _).symm
        · exact ((pdats V 0 c).arrAt_in 3 rfl _).trans (Function.update_of_ne (show main_v23 ≠ main_v27 by decide) _ _).symm
        · exact ((pdats V 0 c).arrAt_in 4 rfl _).trans (Function.update_of_ne (show main_v26 ≠ main_v27 by decide) _ _).symm
        · exact (arr_out V c).trans (Function.update_self (main_v27 : Ref sig .tc) (res V c) (V c)).symm)
      (fun b hb => Function.update_of_ne (fun h => hb (by rw [h]; exact Finset.mem_image.mpr ⟨5, Finset.mem_univ _, rfl⟩)) _ _)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Data

end Nms

end Cert.Proof

end
-- ==== Proof.Deal.lean ====
/-
  Dealing the arrays of the two sparse-core calls to the 32 tasks and collecting them back: each task reads through its
  share of the table (or the values) and of the list, and owns its rows of the result; the rows of the 32 tasks are
  disjoint and cover the array.
-/
module

public import proofs.«01_k».proof.Proof.Base

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (SparseCore.Cfg.HIx 2) (Elt F) ℕ UU ℕ

/-- The 32 tasks as pairs of a SparseCore and a tile. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

omit [FloatOps F] in
/-- Over the two SparseCores and their sixteen tiles is over the 32 tasks. -/
theorem bigSep_wid (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]
  rfl

/-- Each row is the list's entry of exactly one position. -/
theorem ListOK.exists_eq {ix : S20480.Idx → BitVec 32} (h : ListOK ix) (n : Fin 20480) : ∃ r : Fin 20480, (ix (rowIx r)).toNat = n.val := by
  have hinj : Function.Injective fun r : Fin 20480 => (⟨(ix (rowIx r)).toNat, h.lt _⟩ : Fin 20480) := by
    intro r r' hr
    have := h.inj (Fin.mk.inj hr)
    exact congrFun this 0
  obtain ⟨r, hr⟩ := (Finite.injective_iff_surjective.mp hinj) n
  exact ⟨r, congrArg Fin.val hr⟩

theorem gatSet_disjoint : ∀ w ∈ (Finset.univ : Finset (Fin 32)), ∀ w' ∈ (Finset.univ : Finset (Fin 32)), w ≠ w' → Disjoint (gatSet w) (gatSet w') := by
  intro w _ w' _ hne
  rw [Finset.disjoint_left]
  intro x hx hx'
  have h1 := (Finset.mem_filter.mp hx).2
  have h2 := (Finset.mem_filter.mp hx').2
  exact hne (Fin.ext (h1.symm.trans h2))

theorem gatSet_cover : (Finset.univ : Finset (Fin 32)).biUnion gatSet = Finset.univ := by
  refine Finset.eq_univ_iff_forall.mpr fun x => Finset.mem_biUnion.mpr ?_
  have h0 : (x 0).val < 20480 := (x 0).isLt
  exact ⟨⟨(x 0).val / 640, by omega⟩, Finset.mem_univ _, Finset.mem_filter.mpr ⟨Finset.mem_univ _, rfl⟩⟩

open scoped Classical in
/-- A row is of a task when one of the task's positions lists it. -/
theorem mem_scaSet {ix : S20480.Idx → BitVec 32} {w : Fin 32} {x : S20480x128.Idx} : x ∈ scaSet ix w ↔ Owns ix w (x 0).val := by
  unfold scaSet; rw [Finset.mem_filter]; exact ⟨fun h => h.2, fun h => ⟨Finset.mem_univ _, h⟩⟩

theorem scaSet_disjoint {ix : S20480.Idx → BitVec 32} (h : ListOK ix) :
    ∀ w ∈ (Finset.univ : Finset (Fin 32)), ∀ w' ∈ (Finset.univ : Finset (Fin 32)), w ≠ w' → Disjoint (scaSet ix w) (scaSet ix w') := by
  intro w _ w' _ hne
  rw [Finset.disjoint_left]
  intro x hx hx'
  obtain ⟨r, hr, hi⟩ := mem_scaSet.mp hx
  obtain ⟨r', hr', hi'⟩ := mem_scaSet.mp hx'
  have e : rowIx r = rowIx r' := h.inj (hi.trans hi'.symm)
  have : r = r' := congrFun e 0
  subst this
  exact hne (Fin.ext (hr.symm.trans hr'))

theorem scaSet_cover {ix : S20480.Idx → BitVec 32} (h : ListOK ix) : (Finset.univ : Finset (Fin 32)).biUnion (scaSet ix) = Finset.univ := by
  refine Finset.eq_univ_iff_forall.mpr fun x => Finset.mem_biUnion.mpr ?_
  obtain ⟨r, hr⟩ := h.exists_eq (x 0 : Fin 20480)
  have h0 : r.val < 20480 := r.isLt
  exact ⟨⟨r.val / 640, by omega⟩, Finset.mem_univ _, mem_scaSet.mpr ⟨r, rfl, hr⟩⟩

omit [FloatOps F] in
/-- A whole array read by all the tasks, by their shares. -/
theorem pts_shares (ℓ : Loc nD τ sig) (f : Buf (Elt F) ℓ) :
    (ℓ ↦{fullShare} f : sProp 𝕄) = bigSep Finset.univ fun w : Fin 32 => ℓ ↦{taskShare w} f :=
  ShareLeaves.pointsTo_leaves Finset.univ f 5 fullShare

omit [FloatOps F] in
/-- A piece of an array whose contents are f holds something. -/
theorem pts_some {ℓ : Loc nD τ sig} (I : Finset ℓ.2.ty.1.Idx) (f : Buf (Elt F) ℓ) : (ℓ ↦[I]{fullShare} f : sProp 𝕄) ⊢ iprop(∃ f, ℓ ↦[I]{fullShare} f) := by
  iintro H; iexists f; iexact H

variable (X : Vals F)

/-- The gather's operands, dealt. -/
theorem gat_deal (d : Dev nD) (f : Buf (Elt F) (gatLoc d)) :
    iprop((tabLoc d ↦{fullShare} (X.tab d : Buf (Elt F) (tabLoc d))) ∗ (ixLoc d ↦{fullShare} (X.ix d : Buf (Elt F) (ixLoc d)))
      ∗ (gatLoc d ↦{fullShare} f))
    ⊢ (bigSep Finset.univ fun c : Fin ((K (F := F)).nCore 0) => (P X).st 0 d c : sProp 𝕄) := by
  show _ ⊢ (bigSep Finset.univ fun c : Fin 2 => bigSep Finset.univ fun s : Fin 16 => gatIn X d (wid c s) : sProp 𝕄)
  rw [bigSep_wid (fun w => gatIn X d w), bigSep_sep', bigSep_sep']
  refine BI.sep_mono (Entails.of_eq (pts_shares (tabLoc d) (X.tab d)))
    (BI.sep_mono (Entails.of_eq (pts_shares (ixLoc d) (X.ix d))) ?_)
  rw [← gatSet_cover, pointsTo_biUnion Finset.univ (ℓ := gatLoc d) gatSet gatSet_disjoint]
  exact bigSep_mono fun w _ => pts_some _ f

/-- The gather's results, collected. -/
theorem gat_join (d : Dev nD) :
    (bigSep Finset.univ fun c : Fin ((K (F := F)).nCore 0) => (P X).dn 0 d c : sProp 𝕄)
    ⊢ iprop((tabLoc d ↦{fullShare} (X.tab d : Buf (Elt F) (tabLoc d))) ∗ (ixLoc d ↦{fullShare} (X.ix d : Buf (Elt F) (ixLoc d)))
      ∗ (gatLoc d ↦{fullShare} (gathered (X.tab d) (X.ix d) (X.ok d) : Buf (Elt F) (gatLoc d)))) := by
  show (bigSep Finset.univ fun c : Fin 2 => bigSep Finset.univ fun s : Fin 16 => gatOut X d (wid c s) : sProp 𝕄) ⊢ _
  rw [bigSep_wid (fun w => gatOut X d w), bigSep_sep', bigSep_sep']
  refine BI.sep_mono (Entails.of_eq (pts_shares (tabLoc d) (X.tab d)).symm)
    (BI.sep_mono (Entails.of_eq (pts_shares (ixLoc d) (X.ix d)).symm) ?_)
  rw [← pointsTo_biUnion Finset.univ (ℓ := gatLoc d) gatSet gatSet_disjoint, gatSet_cover]
  exact BI.Entails.refl _

/-- The scatter's operands, dealt. -/
theorem sca_deal (d : Dev nD) (f : Buf (Elt F) (scaLoc d)) :
    iprop((valLoc d ↦{fullShare} (X.vals d : Buf (Elt F) (valLoc d))) ∗ (ixLoc d ↦{fullShare} (X.ix d : Buf (Elt F) (ixLoc d)))
      ∗ (scaLoc d ↦{fullShare} f))
    ⊢ (bigSep Finset.univ fun c : Fin ((K (F := F)).nCore 1) => (P X).st 1 d c : sProp 𝕄) := by
  show _ ⊢ (bigSep Finset.univ fun c : Fin 2 => bigSep Finset.univ fun s : Fin 16 => scaIn X d (wid c s) : sProp 𝕄)
  rw [bigSep_wid (fun w => scaIn X d w), bigSep_sep', bigSep_sep']
  refine BI.sep_mono (Entails.of_eq (pts_shares (valLoc d) (X.vals d)))
    (BI.sep_mono (Entails.of_eq (pts_shares (ixLoc d) (X.ix d))) ?_)
  rw [← scaSet_cover (X.ok d), pointsTo_biUnion Finset.univ (ℓ := scaLoc d) (scaSet (X.ix d)) (scaSet_disjoint (X.ok d))]
  exact bigSep_mono fun w _ => pts_some _ f

/-- The scatter's results, collected. -/
theorem sca_join (d : Dev nD) :
    (bigSep Finset.univ fun c : Fin ((K (F := F)).nCore 1) => (P X).dn 1 d c : sProp 𝕄)
    ⊢ iprop((valLoc d ↦{fullShare} (X.vals d : Buf (Elt F) (valLoc d))) ∗ (ixLoc d ↦{fullShare} (X.ix d : Buf (Elt F) (ixLoc d)))
      ∗ (scaLoc d ↦{fullShare} (X.out d : Buf (Elt F) (scaLoc d)))) := by
  show (bigSep Finset.univ fun c : Fin 2 => bigSep Finset.univ fun s : Fin 16 => scaOut X d (wid c s) : sProp 𝕄) ⊢ _
  rw [bigSep_wid (fun w => scaOut X d w), bigSep_sep', bigSep_sep']
  refine BI.sep_mono (Entails.of_eq (pts_shares (valLoc d) (X.vals d)).symm)
    (BI.sep_mono (Entails.of_eq (pts_shares (ixLoc d) (X.ix d)).symm) ?_)
  rw [← pointsTo_biUnion Finset.univ (ℓ := scaLoc d) (scaSet (X.ix d)) (scaSet_disjoint (X.ok d)), scaSet_cover (X.ok d)]
  exact BI.Entails.refl _

end Cert.Proof

end
-- ==== Proof.Launch.lean ====
/-
  The whole launch: the host operations as straight lines, the contents of the TensorCore's arrays from the launch to the
  end, the two sparse-core calls and the suppression call run over them, and the program's run: every execution ends with
  every TensorCore array at the contents computed, and with every semaphore at zero.
-/
module

public import proofs.«01_k».proof.Proof.Gather
public import proofs.«01_k».proof.Proof.Scatter
public import proofs.«01_k».proof.Proof.Region
public import proofs.«01_k».proof.Proof.Deal
public import Idealize.ShloMosaic.Lib.StableHlo.RunLoop

@[expose] public section

set_option maxRecDepth 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.StableHlo (held after seq)

variable {F : FTy → Type} [FloatOps F]

local notation "𝕄" => MT nD τ sig (SparseCore.Cfg.HIx 2) (Elt F) ℕ UU ℕ

/-! ## The host operations -/

/-- The scores negated. -/
abbrev opsA : List (HloOp τ sig (Elt F)) :=
  [ StableHlo.nullary main_cst (fun i => FloatOps.ofBits .f32 (lit0 (S128.rowMajor i))),
    StableHlo.unary main_arg1 main_v0 (Host.negf : (⟨S20000, .f32⟩ : BufTy).Contents (Elt F) → (⟨S20000, .f32⟩ : BufTy).Contents (Elt F)) ]
/-- Their order. -/
abbrev opsB : List (HloOp τ sig (Elt F)) :=
  [ StableHlo.TRef.nullary (.of main_call0_v0 : StableHlo.TRef sig ⟨S20000, .i32⟩) (iotaInDim S20000 32 0),
    StableHlo.TRef.binary (.of main_v0 : StableHlo.TRef sig ⟨S20000, .f32⟩) (.of main_call0_v0 : StableHlo.TRef sig ⟨S20000, .i32⟩) (.of main_call0_v1_0 : StableHlo.TRef sig ⟨S20000, .f32⟩) (fun x y => (Host.sort2 S20000 0 comparator_f32_i32_d0 x y).1),
    StableHlo.TRef.binary (.of main_v0 : StableHlo.TRef sig ⟨S20000, .f32⟩) (.of main_call0_v0 : StableHlo.TRef sig ⟨S20000, .i32⟩) (.of main_v1 : StableHlo.TRef sig ⟨S20000, .i32⟩) (fun x y => (Host.sort2 S20000 0 comparator_f32_i32_d0 x y).2) ]
/-- The table of rows and the list of row numbers. -/
abbrev opsC : List (HloOp τ sig (Elt F)) :=
  [ StableHlo.unary main_arg1 main_v2 (broadcastInDim S20000x1 ![0] bcast_S20000_S20000x1_0 : (⟨S20000, .f32⟩ : BufTy).Contents (Elt F) → (⟨S20000x1, .f32⟩ : BufTy).Contents (Elt F)),
    StableHlo.nullary main_cst_0 (constant S_ .f32 0x00000000#32),
    StableHlo.unary main_cst_0 main_v3 (broadcastInDim S20000x123 ![] bcast_S_S20000x123 : (⟨S_, .f32⟩ : BufTy).Contents (Elt F) → (⟨S20000x123, .f32⟩ : BufTy).Contents (Elt F)),
    StableHlo.nary ![main_arg0, main_v2, main_v3] main_v4 (fun u => (concatenate S20000x128 1 [⟨S20000x4, (u 0 : (⟨S20000x4, .f32⟩ : BufTy).Contents (Elt F))⟩, ⟨S20000x1, (u 1 : (⟨S20000x1, .f32⟩ : BufTy).Contents (Elt F))⟩, ⟨S20000x123, (u 2 : (⟨S20000x123, .f32⟩ : BufTy).Contents (Elt F))⟩] concatenates_S20000x4_S20000x1_S20000x123_S20000x128_d1 : (⟨S20000x128, .f32⟩ : BufTy).Contents (Elt F))),
    StableHlo.unary main_cst main_v5 (broadcastInDim S480x128 ![1] bcast_S128_S480x128_1 : (⟨S128, .f32⟩ : BufTy).Contents (Elt F) → (⟨S480x128, .f32⟩ : BufTy).Contents (Elt F)),
    StableHlo.binary main_v4 main_v5 main_v6 ((fun a b => concatenate S20480x128 0 [⟨S20000x128, a⟩, ⟨S480x128, b⟩] concatenates_S20000x128_S480x128_S20480x128_d0) : (⟨S20000x128, .f32⟩ : BufTy).Contents (Elt F) → (⟨S480x128, .f32⟩ : BufTy).Contents (Elt F) → (⟨S20480x128, .f32⟩ : BufTy).Contents (Elt F)),
    StableHlo.nullary main_v7 (iotaInDim S480 32 0),
    StableHlo.nullary main_c (constantI S_ 32 20000#32),
    StableHlo.unary main_c main_v8 (broadcastInDim S480 ![] bcast_S_S480 : (⟨S_, .i32⟩ : BufTy).Contents (Elt F) → (⟨S480, .i32⟩ : BufTy).Contents (Elt F)),
    StableHlo.binary main_v8 main_v7 main_v9 (addi : (⟨S480, .i32⟩ : BufTy).Contents (Elt F) → (⟨S480, .i32⟩ : BufTy).Contents (Elt F) → (⟨S480, .i32⟩ : BufTy).Contents (Elt F)),
    StableHlo.binary main_v1 main_v9 main_v10 ((fun a b => concatenate S20480 0 [⟨S20000, a⟩, ⟨S480, b⟩] concatenates_S20000_S480_S20480_d0) : (⟨S20000, .i32⟩ : BufTy).Contents (Elt F) → (⟨S480, .i32⟩ : BufTy).Contents (Elt F) → (⟨S20480, .i32⟩ : BufTy).Contents (Elt F)) ]
/-- The five columns of the gathered rows. -/
abbrev ops2 : List (HloOp τ sig (Elt F)) :=
  [ StableHlo.unary main_v11 main_v12 ((extractStridedSlice S20480x1 ![0, 0] · slices_S20480x128_S20480x1_0_0) : (⟨S20480x128, .f32⟩ : BufTy).Contents (Elt F) → (⟨S20480x1, .f32⟩ : BufTy).Contents (Elt F)),
    StableHlo.reshape main_v12 main_v13 (rfl : (.f32 : EltTy) = .f32) shapeCasts_S20480x1_S20480,
    StableHlo.reshape main_v13 main_v14 (rfl : (.f32 : EltTy) = .f32) shapeCasts_S20480_S8x2560,
    StableHlo.unary main_v11 main_v15 ((extractStridedSlice S20480x1 ![0, 1] · slices_S20480x128_S20480x1_0_1) : (⟨S20480x128, .f32⟩ : BufTy).Contents (Elt F) → (⟨S20480x1, .f32⟩ : BufTy).Contents (Elt F)),
    StableHlo.reshape main_v15 main_v16 (rfl : (.f32 : EltTy) = .f32) shapeCasts_S20480x1_S20480,
    StableHlo.reshape main_v16 main_v17 (rfl : (.f32 : EltTy) = .f32) shapeCasts_S20480_S8x2560,
    StableHlo.unary main_v11 main_v18 ((extractStridedSlice S20480x1 ![0, 2] · slices_S20480x128_S20480x1_0_2) : (⟨S20480x128, .f32⟩ : BufTy).Contents (Elt F) → (⟨S20480x1, .f32⟩ : BufTy).Contents (Elt F)),
    StableHlo.reshape main_v18 main_v19 (rfl : (.f32 : EltTy) = .f32) shapeCasts_S20480x1_S20480,
    StableHlo.reshape main_v19 main_v20 (rfl : (.f32 : EltTy) = .f32) shapeCasts_S20480_S8x2560,
    StableHlo.unary main_v11 main_v21 ((extractStridedSlice S20480x1 ![0, 3] · slices_S20480x128_S20480x1_0_3) : (⟨S20480x128, .f32⟩ : BufTy).Contents (Elt F) → (⟨S20480x1, .f32⟩ : BufTy).Contents (Elt F)),
    StableHlo.reshape main_v21 main_v22 (rfl : (.f32 : EltTy) = .f32) shapeCasts_S20480x1_S20480,
    StableHlo.reshape main_v22 main_v23 (rfl : (.f32 : EltTy) = .f32) shapeCasts_S20480_S8x2560,
    StableHlo.unary main_v11 main_v24 ((extractStridedSlice S20480x1 ![0, 4] · slices_S20480x128_S20480x1_0_4) : (⟨S20480x128, .f32⟩ : BufTy).Contents (Elt F) → (⟨S20480x1, .f32⟩ : BufTy).Contents (Elt F)),
    StableHlo.reshape main_v24 main_v25 (rfl : (.f32 : EltTy) = .f32) shapeCasts_S20480x1_S20480,
    StableHlo.reshape main_v25 main_v26 (rfl : (.f32 : EltTy) = .f32) shapeCasts_S20480_S8x2560 ]
/-- The rows scattered. -/
abbrev ops3 : List (HloOp τ sig (Elt F)) :=
  [ StableHlo.reshape main_v27 main_v28 (rfl : (.f32 : EltTy) = .f32) shapeCasts_S8x2560_S20480,
    StableHlo.unary main_v28 main_v29 (broadcastInDim S20480x1 ![0] bcast_S20480_S20480x1_0 : (⟨S20480, .f32⟩ : BufTy).Contents (Elt F) → (⟨S20480x1, .f32⟩ : BufTy).Contents (Elt F)),
    StableHlo.nullary main_cst_1 (constant S_ .f32 0x00000000#32),
    StableHlo.unary main_cst_1 main_v30 (broadcastInDim S20480x127 ![] bcast_S_S20480x127 : (⟨S_, .f32⟩ : BufTy).Contents (Elt F) → (⟨S20480x127, .f32⟩ : BufTy).Contents (Elt F)),
    StableHlo.binary main_v29 main_v30 main_v31 ((fun a b => concatenate S20480x128 1 [⟨S20480x1, a⟩, ⟨S20480x127, b⟩] concatenates_S20480x1_S20480x127_S20480x128_d1) : (⟨S20480x1, .f32⟩ : BufTy).Contents (Elt F) → (⟨S20480x127, .f32⟩ : BufTy).Contents (Elt F) → (⟨S20480x128, .f32⟩ : BufTy).Contents (Elt F)) ]
/-- The result. -/
abbrev ops4 : List (HloOp τ sig (Elt F)) :=
  [ StableHlo.unary main_v32 main_v33 ((extractStridedSlice S20000x1 ![0, 0] · slices_S20480x128_S20000x1_0_0) : (⟨S20480x128, .f32⟩ : BufTy).Contents (Elt F) → (⟨S20000x1, .f32⟩ : BufTy).Contents (Elt F)),
    StableHlo.reshape main_v33 main_v34 (rfl : (.f32 : EltTy) = .f32) shapeCasts_S20000x1_S20000 ]

theorem opsA_sub : (opsA : List (HloOp τ sig (Elt F))).Forall fun op => op.bufs ⊆ StableHlo.tcRefs τ sig := by
  simp only [List.Forall]; exact ⟨StableHlo.nullary_bufs_sub .., StableHlo.unary_bufs_sub ..⟩
theorem opsB_sub : (opsB : List (HloOp τ sig (Elt F))).Forall fun op => op.bufs ⊆ StableHlo.tcRefs τ sig :=
  ⟨StableHlo.nullary_bufs_sub .., StableHlo.binary_bufs_sub .., StableHlo.binary_bufs_sub ..⟩
theorem opsC_sub : (opsC : List (HloOp τ sig (Elt F))).Forall fun op => op.bufs ⊆ StableHlo.tcRefs τ sig :=
  ⟨StableHlo.unary_bufs_sub .., StableHlo.nullary_bufs_sub .., StableHlo.unary_bufs_sub .., StableHlo.nary_bufs_sub .., StableHlo.unary_bufs_sub ..,
    StableHlo.binary_bufs_sub .., StableHlo.nullary_bufs_sub .., StableHlo.nullary_bufs_sub .., StableHlo.unary_bufs_sub .., StableHlo.binary_bufs_sub .., StableHlo.binary_bufs_sub ..⟩
theorem ops2_sub : (ops2 : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub .., StableHlo.reshape_bufs_sub ..,
    StableHlo.unary_bufs_sub .., StableHlo.reshape_bufs_sub .., StableHlo.reshape_bufs_sub .., StableHlo.unary_bufs_sub .., StableHlo.reshape_bufs_sub .., StableHlo.reshape_bufs_sub ..,
    StableHlo.unary_bufs_sub .., StableHlo.reshape_bufs_sub .., StableHlo.reshape_bufs_sub ..⟩
theorem ops3_sub : (ops3 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub ..⟩
theorem ops4_sub : (ops4 : List (HloOp τ sig (Elt F))).Forall fun op => op.bufs ⊆ StableHlo.tcRefs τ sig :=
  ⟨StableHlo.unary_bufs_sub .., StableHlo.reshape_bufs_sub ..⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h

/-- The program is its lines of host operations with the three calls between them. -/
theorem main_chain (d : Dev nD) : main (F := F) d = (Pipeline.chain
    [ seq opsA, seq opsB, seq opsC, sc.run d 0, seq ops2, Prog.lift (.customCall (SparseCore.inner (Pipeline.entry 0)) ()), seq ops3, sc.run d 1, seq ops4 ]
    : Prog (TpuEff nD τ sig (Elt F) (SparseCore.Sig (Pipeline.Sig (Λ₀ F) (Fin 1) fun p => (pcfgs (F := F) p).Adm) 2) .tc) PUnit) := by
  rewrite [StableHlo.chain_seq_cons, Pipeline.chain_cons, StableHlo.chain_seq_cons, Pipeline.chain_cons, StableHlo.chain_seq_cons, Pipeline.chain_cons, StableHlo.chain_seq_cons,
    Pipeline.chain_cons, StableHlo.chain_seq_cons]
  chain_rfl

/-! ## The contents -/

abbrev Valn (F : FTy → Type) := Valuation τ sig (Elt F)

/-- The scattered rows: row `n` is the values' row at the position that lists `n`. -/
def scattered (vals : S20480x128.Idx → F .f32) (ix : S20480.Idx → BitVec 32) (hix : ListOK ix) : S20480x128.Idx → F .f32 :=
  fun x => vals (elIx (Classical.choose (hix.exists_eq (x 0))) (x 1))

theorem scattered_ok (vals : S20480x128.Idx → F .f32) (ix : S20480.Idx → BitVec 32) (hix : ListOK ix) : Scattered vals ix hix (scattered vals ix hix) := by
  intro r k
  unfold scattered
  have h := Classical.choose_spec (hix.exists_eq ⟨(ix (rowIx r)).toNat, hix.lt _⟩)
  have e : Classical.choose (hix.exists_eq ⟨(ix (rowIx r)).toNat, hix.lt _⟩) = r := congrFun (hix.inj h) 0
  exact congrArg (fun r' => vals (elIx r' k)) e

variable (m : (ℓ : Loc nD τ sig) → Buf (Elt F) ℓ) (ρ : Dev nD → PrngReg)

/-- The arrays before the gather. -/
def V1 (d : Dev nD) : Valn F := after opsC (after opsB (after opsA (StableHlo.launchContents m d)))
/-- The table and the list the gather is given. -/
def tab1 (d : Dev nD) : S20480x128.Idx → F .f32 := V1 m d main_v6
def ix1 (d : Dev nD) : S20480.Idx → BitVec 32 := V1 m d main_v10

variable (hl : ∀ d, ListOK (ix1 m d))

/-- The arrays after the gather. -/
def V1' (d : Dev nD) : Valn F := Function.update (V1 m d) main_v11 (gathered (tab1 m d) (ix1 m d) (hl d))
/-- The arrays before the suppression call. -/
def V2 (d : Dev nD) : Valn F := after ops2 (V1' m hl d)
/-- The arrays after the suppression call. -/
def V2' (d : Dev nD) : Valn F := Function.update (V2 m hl d) main_v27
  (Nms.outBlk (V2 m hl d main_v14) (V2 m hl d main_v17) (V2 m hl d main_v20) (V2 m hl d main_v23) (V2 m hl d main_v26))
/-- The arrays before the scatter. -/
def V3 (d : Dev nD) : Valn F := after ops3 (V2' m hl d)
/-- The values the scatter is given. -/
def vals3 (d : Dev nD) : S20480x128.Idx → F .f32 := V3 m hl d main_v31
/-- The arrays after the scatter. -/
def V3' (d : Dev nD) : Valn F := Function.update (V3 m hl d) main_v32 (scattered (vals3 m hl d) (ix1 m d) (hl d))
/-- The arrays at the end. -/
def V4 (d : Dev nD) : Valn F := after ops4 (V3' m hl d)

/-- The values of the two sparse-core calls. -/
def X : Vals F where
  tab := tab1 m
  ix := ix1 m
  ok := hl
  vals := vals3 m hl
  out d := scattered (vals3 m hl d) (ix1 m d) (hl d)
  scat d := scattered_ok _ _ _

/-! ## The calls over the arrays -/

omit [FloatOps F] in
theorem mem_uc (b : Ref sig .tc) (h : (Proc.devRef .tc b : DevRef τ sig).isScoped = false) : (Proc.devRef .tc b : DevRef τ sig) ∈ Pipeline.ucRefs τ sig :=
  Finset.mem_filter.mpr ⟨Finset.mem_map.mpr ⟨b, Finset.mem_univ _, rfl⟩, by rw [h]; decide⟩

/-- Three of the arrays. -/
abbrev three (a b c : Ref sig .tc) : Finset (DevRef τ sig) := {Proc.devRef .tc a, Proc.devRef .tc b, Proc.devRef .tc c}

omit [FloatOps F] in
/-- Three arrays apart from the others. -/
theorem held_three (d : Dev nD) (V : Valn F) (a b c : Ref sig .tc) (hab : a ≠ b) (hac : a ≠ c) (hbc : b ≠ c)
    (ha : (Proc.devRef .tc a : DevRef τ sig).isScoped = false) (hb : (Proc.devRef .tc b : DevRef τ sig).isScoped = false)
    (hc : (Proc.devRef .tc c : DevRef τ sig).isScoped = false) :
    (held (d.tc : Thread nD τ) (Pipeline.ucRefs τ sig) V : sProp 𝕄)
      = iprop((((SparseCore.T d).loc a ↦{fullShare} V a) ∗ ((SparseCore.T d).loc b ↦{fullShare} V b) ∗ ((SparseCore.T d).loc c ↦{fullShare} V c))
        ∗ held (d.tc : Thread nD τ) (Pipeline.ucRefs τ sig \ three a b c) V) := by
  have hi := Proc.devRef_injective (τ := τ) (sig := sig) Proc.tc
  have hT : three a b c ⊆ Pipeline.ucRefs τ sig := by
    intro x hx
    simp only [three, Finset.mem_insert, Finset.mem_singleton] at hx
    rcases hx with rfl | rfl | rfl
    · exact mem_uc _ ha
    · exact mem_uc _ hb
    · exact mem_uc _ hc
  rw [StableHlo.held_sub_split _ hT]
  congr 1
  unfold held three
  rw [SparseCore.bigSep_insert' (by simp only [Finset.mem_insert, Finset.mem_singleton, not_or]; exact ⟨fun h => hab (hi h), fun h => hac (hi h)⟩),
    SparseCore.bigSep_insert' (by simp only [Finset.mem_singleton]; exact fun h => hbc (hi h)), bigSep_singleton]

omit [FloatOps F] in
/-- The others keep their contents when one of the three is written. -/
theorem held_rest (d : Dev nD) (V : Valn F) (a b c : Ref sig .tc) (f : (Proc.devRef .tc c : DevRef τ sig).ty.Contents (Elt F)) :
    (held (d.tc : Thread nD τ) (Pipeline.ucRefs τ sig \ three a b c) (Function.update V c f) : sProp 𝕄)
      = held (d.tc : Thread nD τ) (Pipeline.ucRefs τ sig \ three a b c) V := by
  refine StableHlo.held_congr _ fun x hx => Function.update_of_ne ?_ _ _
  rintro rfl
  exact (Finset.mem_sdiff.mp hx).2 (by simp [three])

/-- The gather over the arrays. -/
theorem call0 (κ : GSem nD τ sig → ℕ) (d : Dev nD) (Φ : PUnit → sProp 𝕄) :
    iprop((K (F := F)).ctx EH (P (X m hl)) κ ∗ (K (F := F)).tcSt EH d 0 ∗ held (d.tc : Thread nD τ) (Pipeline.ucRefs τ sig) (V1 m d)
      ∗ (((K (F := F)).tcSt EH d 1 ∗ held (d.tc : Thread nD τ) (Pipeline.ucRefs τ sig) (V1' m hl d)) -∗ Φ ⟨⟩))
    ⊢ wp frame (wpE ((K (F := F)).defs (D (F := F))) 𝒱 (SparseCore.T d) none) Set.univ ((K (F := F)).run d 0) Φ := by
  have e1 := held_three d (V1 m d) main_v6 main_v10 main_v11 (by decide) (by decide) (by decide) rfl rfl rfl
  have e2 := held_three d (V1' m hl d) main_v6 main_v10 main_v11 (by decide) (by decide) (by decide) rfl rfl rfl
  have e3 := held_rest d (V1 m d) main_v6 main_v10 main_v11 (gathered (tab1 m d) (ix1 m d) (hl d))
  have h6 : V1' m hl d main_v6 = tab1 m d := Function.update_of_ne (by decide) _ _
  have h10 : V1' m hl d main_v10 = ix1 m d := Function.update_of_ne (by decide) _ _
  have h11 : V1' m hl d main_v11 = gathered (tab1 m d) (ix1 m d) (hl d) := Function.update_self _ _ _
  rw [h6, h10, h11] at e2
  rw [e1, e2, show V1' m hl d = Function.update (V1 m d) main_v11 (gathered (tab1 m d) (ix1 m d) (hl d)) from rfl, e3]
  iintro ⟨#Hctx, Hst, ⟨⟨H6, H10, H11⟩, Hrest⟩, Hk⟩
  iapply ((K (F := F)).wp_run (D (F := F)) 𝒱 (EH := EH) (P := P (X m hl)) κ d 0)
  isplitr; · iexact Hctx
  isplitl [Hst]; · iexact Hst
  isplitl [H6 H10 H11]
  · iapply (gat_deal (X m hl) d (V1 m d main_v11))
    isplitl [H6]; · iexact H6
    isplitl [H10]; · iexact H10
    iexact H11
  iintro ⟨Hst, Hdn⟩
  iapply Hk
  isplitl [Hst]; · iexact Hst
  isplitr [Hrest]; swap; · iexact Hrest
  iapply (gat_join (X m hl) d); iexact Hdn

/-- The list is as it was when the scatter starts. -/
theorem V3_ix (d : Dev nD) : V3 m hl d main_v10 = ix1 m d := by
  have h3 : V3 m hl d main_v10 = V2' m hl d main_v10 :=
    StableHlo.after_of_writes_sub ops3 _ (W := [main_v28, main_v29, main_cst_1, main_v30, main_v31]) (StableHlo.forall_writes_sub_of_map rfl) (by decide)
  have h2 : V2 m hl d main_v10 = V1' m hl d main_v10 :=
    StableHlo.after_of_writes_sub ops2 _ (W := [main_v12, main_v13, main_v14, main_v15, main_v16, main_v17, main_v18, main_v19, main_v20, main_v21, main_v22, main_v23, main_v24, main_v25, main_v26])
      (StableHlo.forall_writes_sub_of_map rfl) (by decide)
  have h2' : V2' m hl d main_v10 = V2 m hl d main_v10 := Function.update_of_ne (by decide) _ _
  have h1' : V1' m hl d main_v10 = ix1 m d := Function.update_of_ne (by decide) _ _
  rw [h3, h2', h2, h1']

/-- The scatter over the arrays. -/
theorem call1 (κ : GSem nD τ sig → ℕ) (d : Dev nD) (Φ : PUnit → sProp 𝕄) :
    iprop((K (F := F)).ctx EH (P (X m hl)) κ ∗ (K (F := F)).tcSt EH d 1 ∗ held (d.tc : Thread nD τ) (Pipeline.ucRefs τ sig) (V3 m hl d)
      ∗ (((K (F := F)).tcSt EH d 2 ∗ held (d.tc : Thread nD τ) (Pipeline.ucRefs τ sig) (V3' m hl d)) -∗ Φ ⟨⟩))
    ⊢ wp frame (wpE ((K (F := F)).defs (D (F := F))) 𝒱 (SparseCore.T d) none) Set.univ ((K (F := F)).run d 1) Φ := by
  have e1 := held_three d (V3 m hl d) main_v31 main_v10 main_v32 (by decide) (by decide) (by decide) rfl rfl rfl
  have e2 := held_three d (V3' m hl d) main_v31 main_v10 main_v32 (by decide) (by decide) (by decide) rfl rfl rfl
  have e3 := held_rest d (V3 m hl d) main_v31 main_v10 main_v32 (scattered (vals3 m hl d) (ix1 m d) (hl d))
  have h31 : V3' m hl d main_v31 = vals3 m hl d := Function.update_of_ne (by decide) _ _
  have h10 : V3' m hl d main_v10 = ix1 m d := (Function.update_of_ne (by decide) _ _).trans (V3_ix m hl d)
  have h32 : V3' m hl d main_v32 = scattered (vals3 m hl d) (ix1 m d) (hl d) := Function.update_self _ _ _
  rw [V3_ix] at e1
  rw [h31, h10, h32] at e2
  rw [e1, e2, show V3' m hl d = Function.update (V3 m hl d) main_v32 (scattered (vals3 m hl d) (ix1 m d) (hl d)) from rfl, e3]
  iintro ⟨#Hctx, Hst, ⟨⟨H31, H10, H32⟩, Hrest⟩, Hk⟩
  iapply ((K (F := F)).wp_run (D (F := F)) 𝒱 (EH := EH) (P := P (X m hl)) κ d 1)
  isplitr; · iexact Hctx
  isplitl [Hst]; · iexact Hst
  isplitl [H31 H10 H32]
  · iapply (sca_deal (X m hl) d (V3 m hl d main_v32))
    isplitl [H31]; · iexact H31
    isplitl [H10]; · iexact H10
    iexact H32
  iintro ⟨Hst, Hdn⟩
  iapply Hk
  isplitl [Hst]; · iexact Hst
  isplitr [Hrest]; swap; · iexact Hrest
  iapply (sca_join (X m hl) d); iexact Hdn

/-- The suppression call's fixpoints end, on every device. -/
abbrev AllRest : Prop := ∀ d, Nms.Rests (V2 m hl d main_v14) (V2 m hl d main_v17) (V2 m hl d main_v20) (V2 m hl d main_v23)

/-- What the suppression call's pipeline is given at the launch. -/
abbrev G (d : Dev nD) : sProp 𝕄 :=
  iprop(Pipeline.cellsGhost (Pipeline.pin (pcfgs (F := F)) Nms.adm) EP 0 d ∗ Pipeline.toksInit (Pipeline.pin (pcfgs (F := F)) Nms.adm) EP 0 d)

/-- The suppression call's step is the inner program's, lifted. -/
theorem lift_call : (Prog.lift (.customCall (SparseCore.inner (Pipeline.entry 0)) ()) : Prog (TpuEff nD τ sig (Elt F) (SparseCore.Sig (Pipeline.Sig (Λ₀ F) (Fin 1) fun p => (pcfgs (F := F) p).Adm) 2) .tc) PUnit)
    = SparseCore.liftProg (nD := nD) (Q := 2) (pr := .tc) (.op (.customCall (Pipeline.entry (0 : Fin 1)) () : TpuEff nD τ sig (Elt F) (ΛP F) .tc PUnit) fun x => .ret x) := rfl

/-- An inner program's run, lifted. -/
theorem lift_wp (d : Dev nD) (p : Prog (TpuEff nD τ sig (Elt F) (ΛP F) .tc) PUnit) (Φ : PUnit → sProp 𝕄) :
    wp frame (wpE (D (F := F)) 𝒱 (d.tc : Thread nD τ) none) Set.univ p Φ
    ⊢ wp frame (wpE ((K (F := F)).defs (D (F := F))) 𝒱 (SparseCore.T d) none) Set.univ (SparseCore.liftProg (nD := nD) (Q := 2) (pr := .tc) p) Φ :=
  (K (F := F)).wp_liftProg (D (F := F)) 𝒱 (SparseCore.T d) Set.univ none p Φ

/-- The suppression call over the arrays. -/
theorem callNms [∀ e, Nonempty (Elt F e)] (hr : AllRest m hl) (κ : GSem nD τ sig → ℕ) (d : Dev nD) (Φ : PUnit → sProp 𝕄) :
    iprop((K (F := F)).ctx EH (P (X m hl)) κ ∗ (K (F := F)).tcSt EH d 1 ∗ boundary (d.tc : Thread nD τ) ∗ held (d.tc : Thread nD τ) (Pipeline.ucRefs τ sig) (V2 m hl d) ∗ G d
      ∗ (((K (F := F)).tcSt EH d 1 ∗ boundary (d.tc : Thread nD τ) ∗ held (d.tc : Thread nD τ) (Pipeline.ucRefs τ sig) (V2' m hl d)) -∗ Φ ⟨⟩))
    ⊢ wp frame (wpE ((K (F := F)).defs (D (F := F))) 𝒱 (SparseCore.T d) none) Set.univ
        (Prog.lift (.customCall (SparseCore.inner (Pipeline.entry 0)) ())) Φ := by
  have hreg := Pipeline.RegionSeg.wp (pcfgs (F := F)) Nms.adm (Nms.pdats fun c b => V2 m hl c b) (none : SparseCore.Cfg.HIx 2) cellOf_inj EP defs₀ 𝒱₀ (K (F := F)).L (K (F := F)).lev
    (Nms.reg (fun c b => V2 m hl c b) hr) d none (fun _ h => nomatch h) (fun x => .ret x) Φ
  rw [lift_call]
  refine BI.Entails.trans ?_ (lift_wp d _ Φ)
  refine BI.Entails.trans ?_ hreg
  show _ ⊢ iprop(((boundary (d.tc : Thread nD τ) ∗ (unscopedBufs d (Nms.Vp (fun c b => V2 m hl c b) d)
      ∗ ∃ W, ⌜(K (F := F)).WBelow (SparseCore.T d) W 8⌝ ∗ owes (d : Thread nD τ) ((K (F := F)).Otc d 1) W)) -∗ _)
    ∗ boundary (d.tc : Thread nD τ) ∗ (unscopedBufs d (fun b => V2 m hl d b) ∗ ∃ W, ⌜(K (F := F)).WBelow (SparseCore.T d) W 8⌝ ∗ owes (d : Thread nD τ) ((K (F := F)).Otc d 1) W)
    ∗ _ ∗ _ ∗ _)
  have hV : Nms.Vp (fun c b => V2 m hl c b) d = fun b : Ref sig .tc => V2' m hl d b := by
    funext b
    by_cases hb : b = main_v27
    · subst hb
      exact (Function.update_self (main_v27 : Ref sig .tc) _ _).trans (Function.update_self (Proc.devRef .tc main_v27 : DevRef τ sig) _ (V2 m hl d)).symm
    · exact (Function.update_of_ne hb _ _).trans (Function.update_of_ne (fun h => hb (Proc.devRef_injective _ h)) _ _).symm
  rw [hV, Pipeline.unscopedBufs_held, Pipeline.unscopedBufs_held]
  have hlev := (K (F := F)).ctx_levAts (EH := EH) (P := P (X m hl)) κ (lv := (K (F := F)).lev)
  unfold SparseCore.Cfg.tcSt
  iintro ⟨#Hctx, ⟨HO, Hat⟩, Hb, Hh, ⟨Hg, Ht⟩, Hk⟩
  ihave #Hlev := hlev $$ Hctx
  isplitl [Hk Hat]
  · iintro ⟨Hb, Hh, HO⟩
    rw [wp_ret]; imodintro
    iapply Hk
    isplitl [HO Hat]
    · isplitl [HO]; · iexact HO
      iexact Hat
    isplitl [Hb]; · iexact Hb
    iexact Hh
  isplitl [Hb]; · iexact Hb
  isplitl [Hh HO]
  · isplitl [Hh]; · iexact Hh
    iexact HO
  isplitr; · iexact Hlev
  isplitl [Hg]; · iexact Hg
  iexact Ht

/-! ## The launch element -/

/-- The handshakes' cells and tokens, the pipeline's cells and tokens, no counter. -/
def u₀ : UU := (initOf (K (F := F)).hsCells (K (F := F)).hsToks,
  initOf (Pipeline.cells (Pipeline.pin (pcfgs (F := F)) Nms.adm) cellOf_inj) (Pipeline.launchToks (Pipeline.pin (pcfgs (F := F)) Nms.adm) cellOf_inj), 1)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P (X m hl)).x q thr) := by
  unfold u₀
  have hp : ∀ b : UP, (BI.own ((embR : Emb (UP × Counters) 𝕄) (b, 1)) : sProp 𝕄) ⊢ BI.own (EP b) := fun b => BI.Entails.refl _
  iintro Hu
  ihave H := (ownU_pair (initOf (K (F := F)).hsCells (K (F := F)).hsToks) _) $$ Hu
  icases H with ⟨HH, HP⟩
  ihave HP := (hp _) $$ HP
  ihave HG := (Pipeline.fund_ghost (Pipeline.pin (pcfgs (F := F)) Nms.adm) EP cellOf_inj) $$ HP
  imod HG with ⟨Hc, Ht⟩
  imodintro
  isplitl [HH]; · iexact HH
  isplitl [Hc Ht]
  · rw [bigSep_sep']
    isplitl [Hc]
    · rw [show (bigSep Finset.univ fun d : Dev nD => Pipeline.cellsGhost (Pipeline.pin (pcfgs (F := F)) Nms.adm) EP 0 d : sProp 𝕄)
        = bigSep Finset.univ fun d : Dev nD => bigSep Finset.univ fun p => Pipeline.cellsGhost (Pipeline.pin (pcfgs (F := F)) Nms.adm) EP p d
        from bigSep_congr fun d _ => (bigSep_univ_of_subsingleton (Φ := fun p => (Pipeline.cellsGhost (Pipeline.pin (pcfgs (F := F)) Nms.adm) EP p d : sProp 𝕄)) (0 : Fin 1)).symm]
      iexact Hc
    · rw [show (bigSep Finset.univ fun d : Dev nD => Pipeline.toksInit (Pipeline.pin (pcfgs (F := F)) Nms.adm) EP 0 d : sProp 𝕄)
        = bigSep Finset.univ fun d : Dev nD => bigSep Finset.univ fun p => Pipeline.toksInit (Pipeline.pin (pcfgs (F := F)) Nms.adm) EP p d
        from bigSep_congr fun d _ => (bigSep_univ_of_subsingleton (Φ := fun p => (Pipeline.toksInit (Pipeline.pin (pcfgs (F := F)) Nms.adm) EP p d : sProp 𝕄)) (0 : Fin 1)).symm]
      iexact Ht
  rw [show (bigSep Finset.univ fun thr : Thread nD τ => bigSep Finset.univ fun q : Fin 2 => (P (X m hl)).x q thr) = (bigSep Finset.univ fun _ => iprop(emp) : sProp 𝕄) from
    bigSep_congr fun _ _ => bigSep_emp_const _, emp_all]
  iempintro

/-! ## The program on the TensorCore -/

theorem ops_held {ops : List (HloOp τ sig (Elt F))} (h : ops.Forall fun op => op.bufs ⊆ StableHlo.tcRefs τ sig) : ∀ op ∈ ops, op.bufs ⊆ Pipeline.ucRefs τ sig :=
  fun op ho => Pipeline.sub_ucRefs op (List.forall_iff_forall_mem.mp h op ho)

set_option backward.isDefEq.respectTransparency.types false in
/-- The program on the TensorCore, from the launch to the end. -/
theorem hmain [∀ e, Nonempty (Elt F e)] (hr : AllRest m hl) (κ : GSem nD τ sig → ℕ) (d : Dev nD) :
    iprop((K (F := F)).ctx EH (P (X m hl)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ held (d.tc : Thread nD τ) (Pipeline.ucRefs τ sig) (V4 m hl d) ∗ (K (F := F)).tcEnd d) := by
  unfold SparseCore.Cfg.tcRes SparseCore.Cfg.tcEnd
  rw [main_chain, show (unscopedBufs d fun b => m ((SparseCore.T d).loc b) : sProp 𝕄) = held (d.tc : Thread nD τ) (Pipeline.ucRefs τ sig) (StableHlo.launchContents m d)
    from Pipeline.unscopedBufs_held d (StableHlo.launchContents m d)]
  simp only [Pipeline.chain_cons, Pipeline.chain_nil]
  iintro ⟨#Hctx, Hst, ⟨Hb, Hh, Hts, -⟩, HG⟩
  iapply (StableHlo.wp_seq (defs := (K (F := F)).defs (D (F := F))) 𝒱 none Set.univ d (Pipeline.ucRefs τ sig) _ opsA (ops_held opsA_sub) opsA_fresh (StableHlo.launchContents m d)) $$ [Hb Hh]
  · isplitl [Hb] <;> iassumption
  iintro ⟨Hb, Hh⟩
  iapply (StableHlo.wp_seq (defs := (K (F := F)).defs (D (F := F))) 𝒱 none Set.univ d (Pipeline.ucRefs τ sig) _ opsB (ops_held opsB_sub) opsB_fresh (after opsA (StableHlo.launchContents m d))) $$ [Hb Hh]
  · isplitl [Hb] <;> iassumption
  iintro ⟨Hb, Hh⟩
  iapply (StableHlo.wp_seq (defs := (K (F := F)).defs (D (F := F))) 𝒱 none Set.univ d (Pipeline.ucRefs τ sig) _ opsC (ops_held opsC_sub) opsC_fresh (after opsB (after opsA (StableHlo.launchContents m d)))) $$ [Hb Hh]
  · isplitl [Hb] <;> iassumption
  iintro ⟨Hb, Hh⟩
  rw [wp_bind]
  iapply (call0 m hl κ d)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ ops2 (ops_held ops2_sub) ops2_fresh (V1' m hl d)) $$ [Hb Hh]
  · isplitl [Hb] <;> iassumption
  iintro ⟨Hb, Hh⟩
  rw [wp_bind]
  iapply (callNms m hl hr κ d)
  isplitr; · iexact Hctx
  isplitl [Hst]; · iexact Hst
  isplitl [Hb]; · iexact Hb
  isplitl [Hh]; · iexact Hh
  isplitl [HG]; · iexact HG
  iintro ⟨Hst, Hb, Hh⟩
  iapply (StableHlo.wp_seq (defs := (K (F := F)).defs (D (F := F))) 𝒱 none Set.univ d (Pipeline.ucRefs τ sig) _ ops3 (ops_held ops3_sub) ops3_fresh (V2' m hl d)) $$ [Hb Hh]
  · isplitl [Hb] <;> iassumption
  iintro ⟨Hb, Hh⟩
  rw [wp_bind]
  iapply (call1 m hl κ d)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ ops4 (ops_held ops4_sub) ops4_fresh (V3' m hl d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

set_option maxRecDepth 16384 in
/-- An array held is an array of the memory. -/
theorem held_read (d : Dev nD) (s' : Phys nD τ sig (Elt F)) (V : Valn F) (b : DevRef τ sig) (hb : b ∈ Pipeline.ucRefs τ sig) :
    iprop(held (d.tc : Thread nD τ) (Pipeline.ucRefs τ sig) V ∗ SI s') ⊢ (⌜s'.mem.mem (d, b) = V b⌝ : sProp 𝕄) := by
  have he : (held (d.tc : Thread nD τ) (Pipeline.ucRefs τ sig) V : sProp 𝕄) ⊢ ((d, b) ↦{fullShare} V b) :=
    bigSep_elim (Φ := fun b => (((d, b) : Loc nD τ sig) ↦{fullShare} V b : sProp 𝕄)) hb
  iintro ⟨Hh, HSI⟩
  ihave Hp := he $$ Hh
  ihave H := (SI_pointsTo_agree (st := s') (ℓ := ((d, b) : Loc nD τ sig)) (I := Finset.univ) (q := fullShare) (f := V b)) $$ [HSI Hp]
  · isplitl [HSI] <;> iassumption
  icases H with %h
  ipureintro; exact funext fun i => h i (Finset.mem_univ i)

/-- The program's run: from any memory, every execution ends, with the arrays at the contents computed and the semaphores at zero. -/
theorem run_main [∀ e, Nonempty (Elt F e)] (hr : AllRest m hl) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V4 m hl d b) ∧ r.2.sem = fun _ => 0) :=
  SparseCore.Cfg.θ_run_sc_quiescent (K := K (F := F)) (D := D (F := F)) (𝒱 := 𝒱) (EH := EH) (P := P (X m hl)) (A := ∅) kfacts v₀
    (fun q hq => match q with | 0 => nomatch hq | 1 => nomatch hq)
    (fun q _ => match q with | 0 => Gather.tileObl (X m hl) kfacts | 1 => Scatter.tileObl (X m hl) kfacts)
    (fun q _ => SparseCore.Cfg.VecSplit.of_plain (vecSplit (X m hl) q))
    m ρ main G (fun d => held (d.tc : Thread nD τ) (Pipeline.ucRefs τ sig) (V4 m hl d)) (u₀ (F := F)) (sep_elim_left.trans (hu₀ m hl)) (hmain m ρ hl hr)
    (fun d s' => ∀ b ∈ Pipeline.ucRefs τ sig, s'.mem.mem (d, b) = V4 m hl d b)
    (fun d s' => fun x hx b hb => held_read d s' _ b hb x hx) _ (fun _ h hz => ⟨h, hz⟩)

end Cert.Proof

end
-- ==== Proof.Order.lean ====
/-
  The order the boxes are taken in: the host's stable sort of the negated scores carries the row numbers along, so what it
  leaves of them is a permutation.
-/
module

public import Idealize.ShloMosaic.Lib.SortFacts
public import Idealize.ShloMosaic.Lib.ValueIdxCore

@[expose] public section

noncomputable section

namespace Cert.Proof

open Idealize.ShloMosaic

/-- The permutation a stable sort of `n` keys by `cmp` applies, the row numbers carried along. -/
def orderOf {n : Nat} {α : Type} (cmp : α × BitVec 32 → α × BitVec 32 → BitVec 1) (x : (⟨1, ![n]⟩ : Shape).Idx → α) : Fin n → Fin n :=
  sortedFrom fun k k' => cmp (x (Shape.Idx.ofFin k), BitVec.ofNat 32 k.val) (x (Shape.Idx.ofFin k'), BitVec.ofNat 32 k'.val) == 1#1

theorem orderOf_injective {n : Nat} {α : Type} (cmp : α × BitVec 32 → α × BitVec 32 → BitVec 1) (x : (⟨1, ![n]⟩ : Shape).Idx → α) :
    Function.Injective (orderOf cmp x) := sortedFrom_injective _

theorem orderOf_surjective {n : Nat} {α : Type} (cmp : α × BitVec 32 → α × BitVec 32 → BitVec 1) (x : (⟨1, ![n]⟩ : Shape).Idx → α) :
    Function.Surjective (orderOf cmp x) := sortedFrom_surjective _

/-- What the sort leaves of the row numbers. -/
theorem sort_rows {n : Nat} {α : Type} (cmp : α × BitVec 32 → α × BitVec 32 → BitVec 1) (x : (⟨1, ![n]⟩ : Shape).Idx → α) (r : Fin n) :
    (Host.sort2 ⟨1, ![n]⟩ 0 cmp x (iotaInDim ⟨1, ![n]⟩ 32 0)).2 (Shape.Idx.ofFin r) = BitVec.ofNat 32 (orderOf cmp x r).val := by
  unfold Host.sort2
  simp
  rfl

end Cert.Proof
-- ==== Proof.HostVals.lean ====
/-
  The contents of the kernel's arrays on the host at an index: the table and the row list the gather takes, the five
  columns the suppression call takes, and the result.
-/
module

public import proofs.«01_k».proof.Proof.Launch
public import proofs.«01_k».proof.Proof.Order
public import Idealize.ShloMosaic.Lib.ValueIdx
public import Idealize.ShloMosaic.Lib.ValueLayout
public import Idealize.ShloMosaic.Lib.ValueLayoutCasts

@[expose] public section

set_option maxRecDepth 4096

noncomputable section

namespace Cert.Proof

open Cert.KernelIdeal Cert.KernelIdeal.Gen
open Idealize.ShloMosaic Idealize.ShloMosaic.TcCoe
open Idealize.ShloMosaic.StableHlo (after)

variable {F : FTy → Type} [FloatOps F]

section Vals

variable (m : (ℓ : Loc nD τ sig) → Buf (Elt F) ℓ) (d : Dev nD)

/-- The order of device `d`'s boxes. -/
def perm : Fin 20000 → Fin 20000 :=
  orderOf comparator_f32_i32_d0 (Host.negf (m (d.tc.loc main_arg1) : FVec F S20000 .f32))

theorem V1_v10 : V1 m d main_v10 = concatenate S20480 0
    [⟨S20000, (Host.sort2 S20000 0 comparator_f32_i32_d0 (Host.negf (m (d.tc.loc main_arg1) : FVec F S20000 .f32)) (iotaInDim S20000 32 0)).2⟩,
      ⟨S480, addi (broadcastInDim S480 ![] bcast_S_S480 (constantI S_ 32 20000#32)) (iotaInDim S480 32 0)⟩] concatenates_S20000_S480_S20480_d0 := by
  unfold V1
  after_results
  all_goals rfl

theorem V1_v6 : V1 m d main_v6 = concatenate S20480x128 0
    [⟨S20000x128, concatenate S20000x128 1 [⟨S20000x4, (m (d.tc.loc main_arg0) : FVec F S20000x4 .f32)⟩,
        ⟨S20000x1, broadcastInDim S20000x1 ![0] bcast_S20000_S20000x1_0 (m (d.tc.loc main_arg1) : FVec F S20000 .f32)⟩,
        ⟨S20000x123, broadcastInDim S20000x123 ![] bcast_S_S20000x123 (constant S_ .f32 0x00000000#32)⟩] concatenates_S20000x4_S20000x1_S20000x123_S20000x128_d1⟩,
      ⟨S480x128, V1 m d main_v5⟩] concatenates_S20000x128_S480x128_S20480x128_d0 := by
  unfold V1
  after_results
  all_goals rfl

theorem V1_arg0 : V1 m d main_arg0 = m (d.tc.loc main_arg0) := by
  unfold V1
  after_results
  all_goals rfl

variable (hl : ∀ d, ListOK (ix1 m d))

theorem V1'_v11 : V1' m hl d main_v11 = gathered (tab1 m d) (ix1 m d) (hl d) := Function.update_self ..

theorem V2_v14 : V2 m hl d main_v14 = shapeCast S8x2560 (shapeCast S20480 (extractStridedSlice S20480x1 ![0, 0] (V1' m hl d main_v11 : FVec F S20480x128 .f32) slices_S20480x128_S20480x1_0_0) shapeCasts_S20480x1_S20480) shapeCasts_S20480_S8x2560 := by
  unfold V2
  after_results
  all_goals rfl

theorem V2_v17 : V2 m hl d main_v17 = shapeCast S8x2560 (shapeCast S20480 (extractStridedSlice S20480x1 ![0, 1] (V1' m hl d main_v11 : FVec F S20480x128 .f32) slices_S20480x128_S20480x1_0_1) shapeCasts_S20480x1_S20480) shapeCasts_S20480_S8x2560 := by
  unfold V2
  after_results
  all_goals rfl

theorem V2_v20 : V2 m hl d main_v20 = shapeCast S8x2560 (shapeCast S20480 (extractStridedSlice S20480x1 ![0, 2] (V1' m hl d main_v11 : FVec F S20480x128 .f32) slices_S20480x128_S20480x1_0_2) shapeCasts_S20480x1_S20480) shapeCasts_S20480_S8x2560 := by
  unfold V2
  after_results
  all_goals rfl

theorem V2_v23 : V2 m hl d main_v23 = shapeCast S8x2560 (shapeCast S20480 (extractStridedSlice S20480x1 ![0, 3] (V1' m hl d main_v11 : FVec F S20480x128 .f32) slices_S20480x128_S20480x1_0_3) shapeCasts_S20480x1_S20480) shapeCasts_S20480_S8x2560 := by
  unfold V2
  after_results
  all_goals rfl

theorem V2_v26 : V2 m hl d main_v26 = shapeCast S8x2560 (shapeCast S20480 (extractStridedSlice S20480x1 ![0, 4] (V1' m hl d main_v11 : FVec F S20480x128 .f32) slices_S20480x128_S20480x1_0_4) shapeCasts_S20480x1_S20480) shapeCasts_S20480_S8x2560 := by
  unfold V2
  after_results
  all_goals rfl

theorem V3_v31 : V3 m hl d main_v31 = concatenate S20480x128 1
    [⟨S20480x1, broadcastInDim S20480x1 ![0] bcast_S20480_S20480x1_0 (shapeCast S20480 (V2' m hl d main_v27 : FVec F S8x2560 .f32) shapeCasts_S8x2560_S20480)⟩,
      ⟨S20480x127, broadcastInDim S20480x127 ![] bcast_S_S20480x127 (constant S_ .f32 0x00000000#32)⟩] concatenates_S20480x1_S20480x127_S20480x128_d1 := by
  unfold V3
  after_results
  all_goals rfl

theorem V4_v34 : V4 m hl d main_v34 = shapeCast S20000 (extractStridedSlice S20000x1 ![0, 0] (V3' m hl d main_v32 : FVec F S20480x128 .f32) slices_S20480x128_S20000x1_0_0) shapeCasts_S20000x1_S20000 := by
  unfold V4
  after_results
  all_goals rfl

/-- The arguments are left as they were. -/
theorem V4_arg (b : Ref sig .tc) (hb : b = main_arg0 ∨ b = main_arg1) : V4 m hl d b = m (d.tc.loc b) := by
  rcases hb with rfl | rfl
  all_goals
    unfold V4 V3' V3 V2' V2 V1' V1
    after_results
    all_goals rfl

end Vals

end Cert.Proof
-- ==== Proof.HostAt.lean ====
/-
  The contents of the kernel's arrays on the host at an index: the row list is a permutation of the rows, the table's rows
  are the boxes and their scores, and the columns the suppression call takes are the boxes in the sorted order.
-/
module

public import proofs.«01_k».proof.Proof.HostVals

@[expose] public section

set_option maxRecDepth 4096

noncomputable section

namespace Cert.Proof

open Cert.KernelIdeal Cert.KernelIdeal.Gen
open Idealize.ShloMosaic Idealize.ShloMosaic.TcCoe

variable {F : FTy → Type} [FloatOps F]
variable (m : (ℓ : Loc nD τ sig) → Buf (Elt F) ℓ) (d : Dev nD)

/-- The row list begins with the sorted order. -/
theorem ix1_lo (r : Fin 20000) (h : r.val < 20480) : Cert.Proof.ix1 m d (rowIx ⟨r.val, h⟩) = BitVec.ofNat 32 (perm m d r).val := by
  refine (congrFun (V1_v10 m d) _).trans ?_
  refine (concatenate_pair_apply_left (t := S20480) (s₁ := S20000) (s₂ := S480) (0 : Fin 1) _ _ _ _ rfl (Shape.Idx.ofFin r) ?_).trans (sort_rows (n := 20000) _ _ r)
  intro b; fin_cases b; rfl

/-- The row list ends with the rows appended, in order. -/
theorem ix1_hi (r : Fin 480) (h : 20000 + r.val < 20480) : Cert.Proof.ix1 m d (rowIx ⟨20000 + r.val, h⟩) = BitVec.ofNat 32 (20000 + r.val) := by
  refine (congrFun (V1_v10 m d) _).trans ?_
  refine (concatenate_pair_apply_right (t := S20480) (s₁ := S20000) (s₂ := S480) (0 : Fin 1) _ _ _ _ rfl rfl (ValueIdx.ix1 r) ?_ ?_).trans ?_
  · intro b hb; exact absurd (Subsingleton.elim _ _) hb
  · show r.val + 20000 = 20000 + r.val; omega
  · show 20000#32 + BitVec.ofNat 32 r.val = _
    rw [BitVec.ofNat_add]

theorem row_cases (x : S20480.Idx) : (∃ (r : Fin 20000) (h : r.val < 20480), x = rowIx ⟨r.val, h⟩) ∨ ∃ (r : Fin 480) (h : 20000 + r.val < 20480), x = rowIx ⟨20000 + r.val, h⟩ := by
  have hx : x = rowIx (x 0) := by funext a; match a with | 0 => rfl
  have h0 : (x 0).val < 20480 := (x 0).isLt
  by_cases h : (x 0).val < 20000
  · exact .inl ⟨⟨(x 0).val, h⟩, h0, hx⟩
  · refine .inr ⟨⟨(x 0).val - 20000, by omega⟩, (by show 20000 + ((x 0).val - 20000) < 20480; omega), hx.trans (congrArg rowIx (Fin.ext ?_))⟩
    show (x 0).val = 20000 + ((x 0).val - 20000)
    omega

theorem toNat_small (n : Nat) (h : n < 20480) : (BitVec.ofNat 32 n).toNat = n := by rw [BitVec.toNat_ofNat]; omega

theorem ix1_lo_nat (r : Fin 20000) (h : r.val < 20480) : (Cert.Proof.ix1 m d (rowIx ⟨r.val, h⟩)).toNat = (perm m d r).val := by
  rw [ix1_lo, toNat_small _ (by have := (perm m d r).isLt; omega)]

theorem ix1_hi_nat (r : Fin 480) (h : 20000 + r.val < 20480) : (Cert.Proof.ix1 m d (rowIx ⟨20000 + r.val, h⟩)).toNat = 20000 + r.val := by
  rw [ix1_hi, toNat_small _ h]

/-- The row list names each of the table's rows once. -/
theorem listOK : ListOK (Cert.Proof.ix1 m d) where
  lt x := by
    rcases row_cases x with ⟨r, h, rfl⟩ | ⟨r, h, rfl⟩
    · rw [ix1_lo_nat]; have := (perm m d r).isLt; omega
    · rw [ix1_hi_nat]; exact h
  inj x y e := by
    dsimp only at e
    rcases row_cases x with ⟨r, h, rfl⟩ | ⟨r, h, rfl⟩ <;> rcases row_cases y with ⟨r', h', rfl⟩ | ⟨r', h', rfl⟩
    · rw [ix1_lo_nat, ix1_lo_nat] at e
      obtain rfl := orderOf_injective _ _ (Fin.ext e)
      rfl
    · rw [ix1_lo_nat, ix1_hi_nat] at e; have := (perm m d r).isLt; omega
    · rw [ix1_hi_nat, ix1_lo_nat] at e; have := (perm m d r').isLt; omega
    · rw [ix1_hi_nat, ix1_hi_nat] at e
      obtain rfl : r = r' := Fin.ext (by omega)
      rfl

/-- The table's row of a box holds the box in its first four columns. -/
theorem tab1_box (n : Fin 20000) (k : Fin 4) (hn : n.val < 20480) (hk : k.val < 128) :
    tab1 m d (elIx ⟨n.val, hn⟩ ⟨k.val, hk⟩) = (m (d.tc.loc main_arg0) : FVec F S20000x4 .f32) (ValueIdx.ix2 n k) := by
  refine (congrFun (V1_v6 m d) _).trans ?_
  refine (concatenate_pair_apply_left (t := S20480x128) (s₁ := S20000x128) (s₂ := S480x128) (0 : Fin 2) _ _ _ _ rfl (ValueIdx.ix2 n (⟨k.val, hk⟩ : Fin 128)) ?_).trans ?_
  · intro b; fin_cases b <;> rfl
  · refine concatenate_apply_piece (t := S20000x128) (1 : Fin 2) _ _ _ 0 (by simp) S20000x4 _ rfl rfl 0 rfl (ValueIdx.ix2 n k) ?_ ?_
    · intro b; fin_cases b <;> intro hb
      · rfl
      · exact absurd rfl hb
    · show 0 + k.val = k.val; omega

/-- The table's row of a box holds its score in the fifth column. -/
theorem tab1_score (n : Fin 20000) (hn : n.val < 20480) (hk : 4 < 128) :
    tab1 m d (elIx ⟨n.val, hn⟩ ⟨4, hk⟩) = (m (d.tc.loc main_arg1) : FVec F S20000 .f32) (ValueIdx.ix1 n) := by
  refine (congrFun (V1_v6 m d) _).trans ?_
  refine (concatenate_pair_apply_left (t := S20480x128) (s₁ := S20000x128) (s₂ := S480x128) (0 : Fin 2) _ _ _ _ rfl (ValueIdx.ix2 n (⟨4, hk⟩ : Fin 128)) ?_).trans ?_
  · intro b; fin_cases b <;> rfl
  · refine (concatenate_apply_piece (t := S20000x128) (1 : Fin 2) _ _ _ 1 (by simp) S20000x1 _ rfl rfl 4 rfl (ValueIdx.ix2 n (0 : Fin 1)) ?_ ?_).trans ?_
    · intro b; fin_cases b <;> intro hb
      · rfl
      · exact absurd rfl hb
    · rfl
    · exact broadcastInDim_apply _ _ _ _ (ValueIdx.ix1 n) (fun a => by fin_cases a; rfl)

variable (hl : ∀ d, ListOK (Cert.Proof.ix1 m d))

/-- A column of the gathered rows, in blocks: entry `(k, y)` is row `2560 k + y`'s. -/
theorem column_at (G : FVec F S20480x128 .f32) (j : Fin 128) (off : Fin 2 → Nat) (h0 : off 0 = 0) (h1 : off 1 = j.val) (hs : S20480x128.Slices off S20480x1)
    (k : Fin 8) (y : Fin 2560) (h : 2560 * k.val + y.val < 20480) :
    shapeCast S8x2560 (shapeCast S20480 (extractStridedSlice S20480x1 off G hs) shapeCasts_S20480x1_S20480) shapeCasts_S20480_S8x2560 (ValueIdx.ix2 k y)
      = G (elIx ⟨2560 * k.val + y.val, h⟩ j) := by
  refine (shapeCast_apply _ _ _ (rowIx ⟨2560 * k.val + y.val, h⟩) ?_).trans ?_
  · rw [Shape.rowMajor_val_one, Shape.rowMajor_val_two]; show 2560 * k.val + y.val = k.val * 2560 + y.val; omega
  refine (shapeCast_apply _ _ _ (ValueIdx.ix2 (⟨2560 * k.val + y.val, h⟩ : Fin 20480) (0 : Fin 1)) ?_).trans ?_
  · rw [Shape.rowMajor_val_one, Shape.rowMajor_val_two]; show (2560 * k.val + y.val) * 1 + 0 = 2560 * k.val + y.val; omega
  refine extractStridedSlice_apply _ _ _ _ (elIx ⟨2560 * k.val + y.val, h⟩ j) ?_
  intro a; fin_cases a
  · show 2560 * k.val + y.val = off 0 + (2560 * k.val + y.val); omega
  · show j.val = off 1 + 0; omega

/-- The gathered row of a position before the appended ones. -/
theorem gathered_at (n : Fin 20000) (h : n.val < 20480) (hp : (perm m d n).val < 20480) (j : Fin 128) :
    gathered (tab1 m d) (Cert.Proof.ix1 m d) (hl d) (elIx ⟨n.val, h⟩ j) = tab1 m d (elIx ⟨(perm m d n).val, hp⟩ j) := by
  have e : (⟨(Cert.Proof.ix1 m d (rowIx ⟨n.val, h⟩)).toNat, (hl d).lt (rowIx ⟨n.val, h⟩)⟩ : Fin 20480) = ⟨(perm m d n).val, hp⟩ := by
    rw [Fin.mk.injEq]
    exact ix1_lo_nat m d n h
  unfold gathered
  exact congrArg (fun q : Fin 20480 => tab1 m d (elIx q j)) e

/-- The column `j` the suppression call takes, at a position before the appended ones: the table's, in the sorted order. -/
theorem column_perm (j : Fin 128) (off : Fin 2 → Nat) (h0 : off 0 = 0) (h1 : off 1 = j.val) (hs : S20480x128.Slices off S20480x1)
    (k : Fin 8) (y : Fin 2560) (n : Fin 20000) (hn : n.val = 2560 * k.val + y.val) (hp : (perm m d n).val < 20480) :
    shapeCast S8x2560 (shapeCast S20480 (extractStridedSlice S20480x1 off (V1' m hl d main_v11 : FVec F S20480x128 .f32) hs) shapeCasts_S20480x1_S20480) shapeCasts_S20480_S8x2560 (ValueIdx.ix2 k y)
      = tab1 m d (elIx ⟨(perm m d n).val, hp⟩ j) := by
  have h : 2560 * k.val + y.val < 20480 := by omega
  refine (column_at _ j off h0 h1 hs k y h).trans ?_
  rw [V1'_v11]
  have e : (⟨2560 * k.val + y.val, h⟩ : Fin 20480) = ⟨n.val, hn ▸ h⟩ := Fin.ext hn.symm
  exact (congrArg (fun q : Fin 20480 => gathered (tab1 m d) (Cert.Proof.ix1 m d) (hl d) (elIx q j)) e).trans (gathered_at m d hl n _ hp j)

section Cols

variable (k : Fin 8) (y : Fin 2560) (n : Fin 20000) (hn : n.val = 2560 * k.val + y.val)
include hn

/-- The corners of the box, as the suppression call takes them. -/
theorem V2_v14_at : (V2 m hl d main_v14 : FVec F S8x2560 .f32) (ValueIdx.ix2 k y) = (m (d.tc.loc main_arg0) : FVec F S20000x4 .f32) (ValueIdx.ix2 (perm m d n) 0) := by
  rw [V2_v14]; exact (column_perm m d hl 0 _ rfl rfl _ k y n hn (by omega)).trans (tab1_box m d (perm m d n) 0 _ _)
theorem V2_v17_at : (V2 m hl d main_v17 : FVec F S8x2560 .f32) (ValueIdx.ix2 k y) = (m (d.tc.loc main_arg0) : FVec F S20000x4 .f32) (ValueIdx.ix2 (perm m d n) 1) := by
  rw [V2_v17]; exact (column_perm m d hl 1 _ rfl rfl _ k y n hn (by omega)).trans (tab1_box m d (perm m d n) 1 _ _)
theorem V2_v20_at : (V2 m hl d main_v20 : FVec F S8x2560 .f32) (ValueIdx.ix2 k y) = (m (d.tc.loc main_arg0) : FVec F S20000x4 .f32) (ValueIdx.ix2 (perm m d n) 2) := by
  rw [V2_v20]; exact (column_perm m d hl 2 _ rfl rfl _ k y n hn (by omega)).trans (tab1_box m d (perm m d n) 2 _ _)
theorem V2_v23_at : (V2 m hl d main_v23 : FVec F S8x2560 .f32) (ValueIdx.ix2 k y) = (m (d.tc.loc main_arg0) : FVec F S20000x4 .f32) (ValueIdx.ix2 (perm m d n) 3) := by
  rw [V2_v23]; exact (column_perm m d hl 3 _ rfl rfl _ k y n hn (by omega)).trans (tab1_box m d (perm m d n) 3 _ _)
/-- The box's score, as the suppression call takes it. -/
theorem V2_v26_at : (V2 m hl d main_v26 : FVec F S8x2560 .f32) (ValueIdx.ix2 k y) = (m (d.tc.loc main_arg1) : FVec F S20000 .f32) (ValueIdx.ix1 (perm m d n)) := by
  rw [V2_v26]; exact (column_perm m d hl 4 _ rfl rfl _ k y n hn (by omega)).trans (tab1_score m d (perm m d n) _ _)

end Cols

/-- The values the scatter takes: the suppression call's result in the first column. -/
theorem vals3_at (k : Fin 8) (y : Fin 2560) (r : Fin 20480) (hr : r.val = 2560 * k.val + y.val) :
    vals3 m hl d (elIx r 0) = Nms.outBlk (V2 m hl d main_v14) (V2 m hl d main_v17) (V2 m hl d main_v20) (V2 m hl d main_v23) (V2 m hl d main_v26) (ValueIdx.ix2 k y) := by
  refine (congrFun (V3_v31 m d hl) _).trans ?_
  refine (concatenate_pair_apply_left (t := S20480x128) (s₁ := S20480x1) (s₂ := S20480x127) (1 : Fin 2) _ _ _ _ rfl (ValueIdx.ix2 r (0 : Fin 1)) ?_).trans ?_
  · intro b; fin_cases b <;> rfl
  refine (broadcastInDim_apply _ _ _ _ (rowIx r) (fun a => by fin_cases a; rfl)).trans ?_
  refine (shapeCast_apply _ _ _ (ValueIdx.ix2 k y) ?_).trans ?_
  · rw [Shape.rowMajor_val_one, Shape.rowMajor_val_two]; show k.val * 2560 + y.val = r.val; omega
  · exact congrFun (Function.update_self (Proc.devRef .tc main_v27 : DevRef τ sig) _ _) _

/-- The result's entry of a box, at the box's position `r` in the sorted order. -/
theorem V4_at (n r : Fin 20000) (hnr : perm m d r = n) (hr : r.val < 20480) :
    (V4 m hl d main_v34 : FVec F S20000 .f32) (ValueIdx.ix1 n) = vals3 m hl d (elIx ⟨r.val, hr⟩ 0) := by
  have hn : n.val < 20480 := by omega
  refine (congrFun (V4_v34 m d hl) _).trans ?_
  refine (shapeCast_apply _ _ _ (ValueIdx.ix2 n (0 : Fin 1)) ?_).trans ?_
  · rw [Shape.rowMajor_val_one, Shape.rowMajor_val_two]; show n.val * 1 + 0 = n.val; omega
  refine (extractStridedSlice_apply _ _ _ _ (elIx ⟨n.val, hn⟩ 0) ?_).trans ?_
  · intro a; fin_cases a
    · show n.val = 0 + n.val; omega
    · rfl
  refine (congrFun (Function.update_self (Proc.devRef .tc main_v32 : DevRef τ sig) _ _) _).trans ?_
  have h := scattered_ok (vals3 m hl d) (Cert.Proof.ix1 m d) (hl d) ⟨r.val, hr⟩ 0
  have e : (⟨(Cert.Proof.ix1 m d (rowIx ⟨r.val, hr⟩)).toNat, (hl d).lt _⟩ : Fin 20480) = ⟨n.val, hn⟩ := Fin.ext ((ix1_lo_nat m d r hr).trans (congrArg Fin.val hnr))
  exact (congrArg (fun q : Fin 20480 => scattered (vals3 m hl d) (Cert.Proof.ix1 m d) (hl d) (elIx q 0)) e).symm.trans h

end Cert.Proof
-- ==== Proof.Values.lean ====
/-
  The suppression kernel's operations at an index, at the ideal values: the overlap of two boxes as one expression, and
  each value of the kernel as that expression's indicator, a sum or a maximum.
-/
module

public import proofs.«01_k».proof.Proof.Region
public import Idealize.ShloMosaic.Lib.ValueIdx
public import Idealize.ShloMosaic.Lib.ValueLayout
public import Idealize.ShloMosaic.Lib.ValueLayoutCasts
public import Idealize.ShloMosaic.Lib.IdealHost

@[expose] public section

noncomputable section

namespace Cert.Proof.Nms

open Cert.KernelIdeal Cert.KernelIdeal.Gen
open Idealize.ShloMosaic hiding addf_apply constantI_apply constant_apply divf_apply eq_ix1 eq_ix2 eq_ix3 eq_ix4 eq_ix5 extf_apply ix0 ix1 ix2 ix3 ix4 ix5 maximumf_apply minimumf_apply mulf_apply negf_apply subf_apply sum_idx2 truncf_apply
open Idealize.ShloMosaic.ValueIdx

/-- The area of a box given by its corners, both ends counted. -/
def areaOf (b : Fin 4 → EReal) : EReal := (b 2 - b 0 + Ideal.ofBits .f32 0x3F800000#32) * (b 3 - b 1 + Ideal.ofBits .f32 0x3F800000#32)

/-- The area of the common part of two boxes. -/
def interOf (a b : Fin 4 → EReal) : EReal :=
  max (min (a 2) (b 2) - max (a 0) (b 0) + Ideal.ofBits .f32 0x3F800000#32) (Ideal.ofBits .f32 0x00000000#32)
    * max (min (a 3) (b 3) - max (a 1) (b 1) + Ideal.ofBits .f32 0x3F800000#32) (Ideal.ofBits .f32 0x00000000#32)

/-- Box `a` overlaps box `b` by more than the threshold: the common part over the whole of the two. -/
def Over (a b : Fin 4 → EReal) : Prop :=
  Ideal.ofBits .f32 0x3E99999A#32 < Ideal.div (interOf a b) (areaOf a + areaOf b - interOf a b)

open scoped Classical in
/-- The indicator of a proposition. -/
def ind (p : Prop) : EReal := if p then 1 else 0

theorem ind_congr {p q : Prop} (h : p ↔ q) : ind p = ind q := by rw [propext h]
theorem ind_pos {p : Prop} (h : p) : ind p = 1 := if_pos h
theorem ind_neg {p : Prop} (h : ¬ p) : ind p = 0 := if_neg h
theorem ind_nonneg (p : Prop) : 0 ≤ ind p := by unfold ind; split <;> simp
theorem ind_mul (p q : Prop) : ind p * ind q = ind (p ∧ q) := by
  by_cases hp : p <;> by_cases hq : q <;> simp [ind, hp, hq]
theorem ind_ne_zero {p : Prop} : ind p ≠ 0 ↔ p := by
  by_cases hp : p <;> simp [ind, hp]
theorem ind_pos_iff {p : Prop} : 0 < ind p ↔ p := by
  by_cases hp : p <;> simp [ind, hp]
theorem ind_inj {p q : Prop} (h : ind p = ind q) : p ↔ q := by
  rw [← ind_ne_zero (p := p), h, ind_ne_zero]

/-- A truth bit, widened and converted, is its indicator. -/
theorem conv_bit (b : Bool) : (FloatOps.sitofp .f32 ((BitVec.ofBool b).setWidth 32) : Ideal .f32) = ind (b = true) := by
  cases b
  · show (((0#32).toInt : ℝ) : EReal) = _
    rw [ind_neg (by simp)]; simp
  · show (((1#32).toInt : ℝ) : EReal) = _
    rw [ind_pos rfl]; simp

/-- A column of 2560 spread over the square reads its row's element. -/
theorem spread_col (x : FVec Ideal S2560 .f32) (i j : Fin 2560) :
    broadcastTo S2560x2560 (shapeCast S2560x1 x shapeCasts_S2560_S2560x1) broadcasts_S2560x1_S2560x2560 (ix2 i j) = x (ix1 i) :=
  (broadcastTo_apply _ _ (ix2 i j) (ix2 i (0 : Fin 1)) (by
    intro a
    match a with
    | ⟨0, _⟩ => rfl
    | ⟨1, _⟩ => rfl)).trans (shapeCast_a_a1_apply x _ i 0)

/-- A row of 2560 spread over the square reads its column's element. -/
theorem spread_row (x : FVec Ideal S2560 .f32) (i j : Fin 2560) :
    broadcastTo S2560x2560 (shapeCast S1x2560 x shapeCasts_S2560_S1x2560) broadcasts_S1x2560_S2560x2560 (ix2 i j) = x (ix1 j) :=
  (broadcastTo_1b_ab_apply _ _ i j).trans (shapeCast_a_1a_apply x _ 0 j)

/-- A one-row array cast to one axis. -/
theorem flat_row (x : FVec Ideal S1x2560 .f32) (j : Fin 2560) : shapeCast S2560 x shapeCasts_S1x2560_S2560 (ix1 j) = x (ix2 0 j) :=
  shapeCast_1a_a_apply x _ j

/-- … and back. -/
theorem row_flat (x : FVec Ideal S2560 .f32) (j : Fin 2560) : shapeCast S1x2560 x shapeCasts_S2560_S1x2560 (ix2 0 j) = x (ix1 j) :=
  shapeCast_a_1a_apply x _ 0 j

/-- The product of a row and the square at a column: the sum over the row's elements. -/
theorem mul_row (x : FVec Ideal S1x2560 .f32) (M : FVec Ideal S2560x2560 .f32) (j : Fin 2560) :
    matmul dot_S1x2560_S2560x2560_S1x2560_1_0_0_1_n_n none x M (constant S1x2560 .f32 0x00000000#32) (ix2 0 j)
      = ∑ t : Fin 2560, x (ix2 0 t) * M (ix2 t j) := by
  simp only [matmul]
  rw [Ideal.matmul_constant_zero_apply]
  rw [← Equiv.sum_comp (contrEquiv1 dot_S1x2560_S2560x2560_S1x2560_1_0_0_1_n_n 2560 rfl rfl).symm]
  refine Finset.sum_congr rfl fun t _ => ?_
  have ht := contrEquiv1_symm_val dot_S1x2560_S2560x2560_S1x2560_1_0_0_1_n_n 2560 rfl rfl t
  congr 1
  · refine congrArg x (funext fun a => Fin.ext ?_)
    match a with
    | ⟨0, _⟩ => rfl
    | ⟨1, _⟩ => exact ht
  · refine congrArg M (funext fun a => Fin.ext ?_)
    match a with
    | ⟨0, _⟩ => exact ht
    | ⟨1, _⟩ => rfl

/-- The box of column `y` in four rows. -/
def boxAt (x0 x1 x2 x3 : FVec Ideal S1x2560 .f32) (y : Fin 2560) : Fin 4 → EReal :=
  ![x0 (ix2 0 y), x1 (ix2 0 y), x2 (ix2 0 y), x3 (ix2 0 y)]

theorem pay24_at (x0 x1 x2 x3 : FVec Ideal S1x2560 .f32) (y : Fin 2560) :
    k1_pay24 (F := Ideal) x0 x1 x2 x3 (ix1 y) = areaOf (boxAt x0 x1 x2 x3 y) := by
  simp only [k1_pay24, k1_pay20, k1_pay21, k1_pay22, k1_pay23, mulf_apply, addf_apply, subf_apply, broadcast_apply]
  rw [flat_row x0, flat_row x1, flat_row x2, flat_row x3]
  rfl

theorem pay10_at (x0 x1 x2 x3 : FVec Ideal S1x2560 .f32) (y : Fin 2560) :
    k1_pay10 (F := Ideal) x0 x1 x2 x3 (ix1 y) = areaOf (boxAt x0 x1 x2 x3 y) := pay24_at x0 x1 x2 x3 y

/-- The matrix of a block: the indicator of a suppression by an earlier box of the block. -/
theorem pay32_at (x0 x1 x2 x3 : FVec Ideal S1x2560 .f32) (M : FVec Ideal S2560x2560 .f32) (i j : Fin 2560) :
    k1_pay32 M (k1_pay23 x3) (k1_pay24 x0 x1 x2 x3) (k1_pay29 x0) (k1_pay30 x1) (k1_pay31 x2) (ix2 i j)
      = ind (Over (boxAt x0 x1 x2 x3 i) (boxAt x0 x1 x2 x3 j)) * M (ix2 i j) := by
  simp only [k1_pay32, k1_pay29, k1_pay30, k1_pay31]
  rw [shapeCast_self]
  simp only [mulf_apply, addf_apply, subf_apply, divf_apply, maximumf_apply, minimumf_apply, broadcast_apply, cmpf_apply, sitofp_apply, extui_apply]
  simp only [spread_col, spread_row, pay24_at]
  simp only [k1_pay20, k1_pay21, k1_pay22, k1_pay23, flat_row]
  rw [Ideal.cmpf_def]
  unfold Ideal.cmp
  rw [conv_bit]
  congr 1
  exact ind_congr (by rw [decide_eq_true_iff]; exact Iff.rfl)

/-- The step of the count: the kept boxes of block `j` that suppress the box. -/
theorem pay26_at (x0 x1 x2 x3 y0 y1 y2 y3 A K : FVec Ideal S1x2560 .f32) (y : Fin 2560) :
    k1_pay26 x0 x1 x2 x3 A (k1_pay10 y0 y1 y2 y3) (k1_pay11 (k1_pay20 x0) (k1_pay22 x2) y0 y2) (k1_pay12 (k1_pay21 x1) (k1_pay23 x3) y1 y3) K (ix2 0 y)
      = A (ix2 0 y) + ∑ t : Fin 2560, K (ix2 0 t) * ind (Over (boxAt y0 y1 y2 y3 t) (boxAt x0 x1 x2 x3 y)) := by
  simp only [k1_pay26]
  rw [addf_apply, mul_row]
  congr 1
  refine Finset.sum_congr rfl fun t _ => ?_
  rw [row_flat, flat_row]
  congr 1
  simp only [k1_pay11, k1_pay12]
  simp only [mulf_apply, addf_apply, subf_apply, divf_apply, maximumf_apply, minimumf_apply, broadcast_apply, cmpf_apply, sitofp_apply, extui_apply]
  simp only [spread_col, spread_row, pay24_at, pay10_at]
  simp only [k1_pay20, k1_pay21, k1_pay22, k1_pay23, k1_pay6, k1_pay7, k1_pay8, k1_pay9, flat_row]
  rw [Ideal.cmpf_def]
  unfold Ideal.cmp
  rw [conv_bit]
  exact ind_congr (by rw [decide_eq_true_iff]; exact Iff.rfl)

/-- The mask of the pairs with the column after the row. -/
theorem pay1_at (i j : Fin 2560) : k1_pay1 (F := Ideal) (ix2 i j) = ind (i.val < j.val) := by
  have e : (k1_pay1 (F := Ideal) (ix2 i j)) = (FloatOps.sitofp .f32 ((Scalar.cmpi .sgt (BitVec.ofNat 32 j.val) (BitVec.ofNat 32 i.val)).setWidth 32) : Ideal .f32) := by
    simp only [k1_pay1]
    show (FloatOps.sitofp .f32 ((Scalar.cmpi .sgt (BitVec.ofNat 32 (0 * 2560 + j.val)) (BitVec.ofNat 32 (0 * 2560 + i.val))).setWidth 32) : Ideal .f32) = _
    rw [Nat.zero_mul, Nat.zero_add, Nat.zero_add]
  rw [e]
  have h : Scalar.cmpi .sgt (BitVec.ofNat 32 j.val) (BitVec.ofNat 32 i.val) = BitVec.ofBool (decide (i.val < j.val)) := by
    show BitVec.ofBool ((BitVec.ofNat 32 i.val).slt (BitVec.ofNat 32 j.val)) = _
    congr 1
    rw [Bool.eq_iff_iff, BitVec.slt_iff_toInt_lt, decide_eq_true_iff]
    have hi := i.isLt
    have hj := j.isLt
    rw [BitVec.toInt_eq_toNat_of_lt (by rw [BitVec.toNat_ofNat, Nat.mod_eq_of_lt (by omega)]; omega),
      BitVec.toInt_eq_toNat_of_lt (by rw [BitVec.toNat_ofNat, Nat.mod_eq_of_lt (by omega)]; omega),
      BitVec.toNat_ofNat, BitVec.toNat_ofNat, Nat.mod_eq_of_lt (by omega), Nat.mod_eq_of_lt (by omega)]
    exact Int.ofNat_lt
  rw [h, conv_bit]
  exact ind_congr (by simp)

/-- The row the iteration of a block starts from: one where the count is not positive. -/
theorem pay33_at (A : FVec Ideal S1x2560 .f32) (y : Fin 2560) : k1_pay33 (k1_pay28 A) (ix2 0 y) = ind (¬ 0 < A (ix2 0 y)) := by
  simp only [k1_pay33, k1_pay28]
  rw [row_flat, subf_apply, broadcast_apply, flat_row, sitofp_apply, extui_apply, cmpf_apply, broadcast_apply, Ideal.cmpf_def]
  unfold Ideal.cmp
  rw [conv_bit]
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  rw [h0, h1]
  by_cases h : 0 < A (ix2 0 y)
  · rw [ind_pos (by simpa using h), ind_neg (by simpa using h)]
    exact EReal.sub_self (x := 1) (EReal.coe_ne_top 1) (EReal.coe_ne_bot 1)
  · rw [ind_neg (by simpa using h), ind_pos (by simpa using h)]
    exact sub_zero _

/-- One suppression step of a block. -/
theorem pay5_at (b a : FVec Ideal S1x2560 .f32) (M : FVec Ideal S2560x2560 .f32) (y : Fin 2560) :
    k1_pay5 b a M (ix2 0 y) = b (ix2 0 y) * ind (∑ t : Fin 2560, a (ix2 0 t) * M (ix2 t y) = 0) := by
  simp only [k1_pay5]
  rw [mulf_apply, sitofp_apply, extui_apply, cmpf_apply, broadcast_apply, mul_row, Ideal.cmpf_def]
  unfold Ideal.cmp
  rw [conv_bit]
  have h0 : (Scalar.ofBits .f32 0x00000000#32 : Ideal .f32) = (0 : EReal) := Ideal.ofBits_zero_f32
  rw [h0]
  congr 1
  exact ind_congr (by rw [decide_eq_true_iff])

/-- The store of the scores under the keep row. -/
theorem pay3_at (K : FVec Ideal S2560 .f32) (s : FVec Ideal S1x2560 .f32) (y : Fin 2560) :
    k1_pay3 K s (ix2 0 y) = s (ix2 0 y) * K (ix1 y) := by
  simp only [k1_pay3]
  rw [row_flat, mulf_apply, flat_row]

theorem pay2_at (K : FVec Ideal S2560 .f32) (y : Fin 2560) : k1_pay2 K (ix2 0 y) = K (ix1 y) := row_flat K y
theorem pay35_at (K : FVec Ideal S1x2560 .f32) (y : Fin 2560) : k1_pay35 K (ix1 y) = K (ix2 0 y) := flat_row K y

/-- The test of a step is positive exactly when the two rows differ. -/
theorem pay4_pos (a b : FVec Ideal S1x2560 .f32) : (0 : EReal) < k1_pay4 a b ↔ a ≠ b := by
  simp only [k1_pay4]
  have e : ∀ (v : FVec Ideal S1 .f32), extractAt ![0, 0, 0] (shapeCast S1x1x1 v shapeCasts_S1_S1x1x1) inpos_S1x1x1_p0_0_0 = v (ix1 0) := by
    intro v
    unfold extractAt shapeCast
    refine congrArg v (funext fun i => Fin.ext ?_)
    match i with
    | ⟨0, _⟩ =>
      have h1 : ∀ x y : Fin 1, x.val = y.val := fun x y => by omega
      exact h1 _ _
  rw [e]
  refine (iff_of_eq (congrArg (fun z : EReal => 0 < z) (multiReduction_maximumf_eq_fold (F := Ideal) _ _ _ _ _ _))).trans ?_
  have hb : (FloatOps.ofBits .f32 0xFF800000#32 : Ideal .f32) = (⊥ : EReal) := by
    show Ideal.ofBits .f32 0xFF800000#32 = _
    simp [Ideal.ofBits, Ideal.ieee]
  rw [hb]
  show (0 : EReal) < Finset.fold max _ _ _ ↔ _
  rw [Finset.lt_fold_max]
  have hsel : ∀ x, (0 : EReal) < (select (cmpf .one a b) (broadcast S1x2560 (Scalar.ofBits .f32 0x3F800000#32)) (broadcast S1x2560 (Scalar.ofBits .f32 0x00000000#32)) : FVec Ideal S1x2560 .f32) x ↔ a x ≠ b x := by
    intro x
    rw [select_apply, cmpf_apply, broadcast_apply, broadcast_apply, Ideal.cmpf_def]
    have h0 : (Scalar.ofBits .f32 0x00000000#32 : Ideal .f32) = (0 : EReal) := Ideal.ofBits_zero_f32
    have h1 : (Scalar.ofBits .f32 0x3F800000#32 : Ideal .f32) = (1 : EReal) := Ideal.ofBits_one_f32
    rw [h0, h1]
    unfold Ideal.cmp Scalar.select
    by_cases h : a x = b x <;> simp [h]
  constructor
  · rintro (h | ⟨x, -, hx⟩) hab
    · exact absurd h (by simp)
    · exact (hsel _).mp hx (congrFun hab _)
  · intro hab
    obtain ⟨x, hx⟩ := Function.ne_iff.mp hab
    refine Or.inr ⟨(Shape.reshapeEquiv shapeCasts_S1x2560_S1x1x2560).symm x, ?_, ?_⟩
    · refine Finset.mem_filter.mpr ⟨Finset.mem_univ _, funext fun i => Fin.ext ?_⟩
      match i with
      | ⟨0, _⟩ =>
        have h1 : ∀ x y : Fin 1, x.val = y.val := fun x y => by omega
        exact h1 _ _
    · have := (hsel x).mpr hx
      unfold shapeCast
      rw [Equiv.apply_symm_apply]
      exact this

end Cert.Proof.Nms
-- ==== Proof.Greedy.lean ====
/-
  Greedy suppression over a sequence, apart from any program: item `n` is kept when no kept item before it suppresses it.
  The sequential loop (one item suppressing the later ones per trip) and the fixpoint iteration inside a block both
  compute it.
-/
module

public import Mathlib.Data.Nat.Init
public import Mathlib.Tactic.Common
public import Mathlib.Logic.Basic

@[expose] public section

namespace Cert.Proof

/-- Item `n` is kept when no kept item before it suppresses it. -/
def Keep (S : ℕ → ℕ → Prop) (n : ℕ) : Prop := ∀ i, ∀ _ : i < n, Keep S i → ¬ S i n
termination_by n

theorem keep_iff (S : ℕ → ℕ → Prop) (n : ℕ) : Keep S n ↔ ∀ i, i < n → Keep S i → ¬ S i n := by
  conv_lhs => rw [Keep]

/-- Keeping depends on the relation among the items so far only. -/
theorem keep_congr {S S' : ℕ → ℕ → Prop} {N : ℕ} (h : ∀ i j, i < j → j < N → (S i j ↔ S' i j)) : ∀ n, n < N → (Keep S n ↔ Keep S' n) := by
  intro n
  induction n using Nat.strong_induction_on with
  | _ n ih =>
    intro hn
    rw [keep_iff, keep_iff]
    refine forall_congr' fun i => forall_congr' fun hi => ?_
    rw [ih i hi (by omega), h i n hi hn]

/-- The sequential loop: trip `k` drops the items after `k` that `k` suppresses, when `k` is still there. -/
theorem keep_of_loop (S : ℕ → ℕ → Prop) (N : ℕ) (A : ℕ → ℕ → Prop) (h0 : ∀ j, j < N → A 0 j)
    (hs : ∀ k, k < N → ∀ j, j < N → (A (k + 1) j ↔ A k j ∧ ¬ (S k j ∧ k < j ∧ A k k))) : ∀ j, j < N → (A N j ↔ Keep S j) := by
  have key : ∀ k, k ≤ N → ∀ j, j < N → (A k j ↔ ∀ i, i < k → i < j → Keep S i → ¬ S i j) := by
    intro k
    induction k with
    | zero => exact fun _ j hj => ⟨fun _ i hi => absurd hi (Nat.not_lt_zero i), fun _ => h0 j hj⟩
    | succ k ih =>
      intro hk j hj
      have hkk : A k k ↔ Keep S k := by
        rw [ih (by omega) k (by omega), keep_iff]
        exact ⟨fun h i hi => h i hi hi, fun h i hi _ => h i hi⟩
      rw [hs k (by omega) j hj, ih (by omega) j hj, hkk]
      constructor
      · rintro ⟨h1, h2⟩ i hi hij hKi hS
        rcases Nat.lt_succ_iff_lt_or_eq.mp hi with h | rfl
        · exact h1 i h hij hKi hS
        · exact h2 ⟨hS, hij, hKi⟩
      · exact fun h => ⟨fun i hi => h i (by omega), fun ⟨hS, hkj, hK⟩ => h k (by omega) hkj hK hS⟩
  intro j hj
  rw [key N (Nat.le_refl N) j hj, keep_iff]
  exact ⟨fun h i hi => h i (by omega) hi, fun h i _ hij => h i hij⟩

/-- The fixpoint iteration inside a block of `B` items from item `o`: the candidates are the items no kept item before
    the block suppresses, and each step keeps the candidates that no item kept by the step before suppresses. After `n`
    steps the first `n + 1` items of the block are right. -/
theorem keep_of_fix (S : ℕ → ℕ → Prop) (o B : ℕ) (base : ℕ → Prop) (A : ℕ → ℕ → Prop)
    (hb : ∀ y, y < B → (base y ↔ ∀ i, i < o → Keep S i → ¬ S i (o + y)))
    (h0 : ∀ y, y < B → (A 0 y ↔ base y))
    (hs : ∀ n y, y < B → (A (n + 1) y ↔ base y ∧ ∀ x, x < B → A n x → ¬ (S (o + x) (o + y) ∧ x < y))) :
    ∀ n y, y < B → y ≤ n → (A n y ↔ Keep S (o + y)) := by
  have split : ∀ y, y < B → (Keep S (o + y) ↔ base y ∧ ∀ x, x < y → Keep S (o + x) → ¬ S (o + x) (o + y)) := by
    intro y hy
    rw [keep_iff, hb y hy]
    constructor
    · exact fun h => ⟨fun i hi => h i (by omega), fun x hx => h (o + x) (by omega)⟩
    · rintro ⟨h1, h2⟩ i hi
      by_cases h : i < o
      · exact h1 i h
      · have := h2 (i - o) (by omega)
        rwa [show o + (i - o) = i by omega] at this
  intro n
  induction n with
  | zero =>
    intro y hy hn
    obtain rfl : y = 0 := by omega
    rw [h0 0 hy, split 0 hy]
    exact ⟨fun h => ⟨h, fun x hx => absurd hx (Nat.not_lt_zero x)⟩, fun h => h.1⟩
  | succ n ih =>
    intro y hy hn
    rw [hs n y hy, split y hy]
    refine and_congr_right fun _ => ⟨fun h x hx hK hS => ?_, fun h x hxB hA ⟨hS, hx⟩ => ?_⟩
    · exact h x (by omega) ((ih x (by omega) (by omega)).mpr hK) ⟨hS, hx⟩
    · exact h x hx ((ih x (by omega) (by omega)).mp hA) hS

end Cert.Proof

end
-- ==== Proof.Blocks.lean ====
/-
  The suppression kernel at the ideal values: over any sequence of boxes laid out in eight blocks, the iteration of every
  block comes to rest and the keep row of every block is the greedy suppression's.
-/
module

public import proofs.«01_k».proof.Proof.Values
public import proofs.«01_k».proof.Proof.Greedy

@[expose] public section

noncomputable section

namespace Cert.Proof.Nms

open Cert.KernelIdeal Cert.KernelIdeal.Gen
open Idealize.ShloMosaic

theorem sum_ind_nonneg {ι : Type} [Fintype ι] (p : ι → Prop) : 0 ≤ ∑ t, ind (p t) :=
  Finset.sum_nonneg fun t _ => ind_nonneg _

/-- A sum of indicators is zero exactly when none holds. -/
theorem sum_ind_eq_zero {ι : Type} [Fintype ι] (p : ι → Prop) : ∑ t, ind (p t) = 0 ↔ ∀ t, ¬ p t := by
  rw [Finset.sum_eq_zero_iff_of_nonneg fun t _ => ind_nonneg _]
  exact forall_congr' fun t => by
    rw [← not_iff_not, not_not]
    simp only [Finset.mem_univ, forall_true_left]
    exact ind_ne_zero

/-- A count that is not negative stays so on adding a sum of indicators, and is positive when it was or one holds. -/
theorem count_add {ι : Type} [Fintype ι] (a : EReal) (ha : 0 ≤ a) (p : ι → Prop) :
    0 ≤ a + ∑ t, ind (p t) ∧ (0 < a + ∑ t, ind (p t) ↔ 0 < a ∨ ∃ t, p t) := by
  have hs := sum_ind_nonneg p
  have h := add_nonneg ha hs
  refine ⟨h, ?_⟩
  rw [lt_iff_le_and_ne, lt_iff_le_and_ne, ne_comm, ne_comm (b := a), and_iff_right h, and_iff_right ha, Ne,
    add_eq_zero_iff_of_nonneg ha hs, sum_ind_eq_zero, not_and_or]
  push Not
  exact Iff.rfl

/-- The test of step `n` holds exactly when the step changes the row. -/
theorem go_iff (b : FVec Ideal S1x2560 .f32) (M : FVec Ideal S2560x2560 .f32) (n : ℕ) :
    Go b M n ↔ itK b M n ≠ itK b M (n + 1) := by
  rw [← pay4_pos]
  unfold Go
  have h0 : (Scalar.ofBits .f32 0x00000000#32 : Ideal .f32) = (0 : EReal) := Ideal.ofBits_zero_f32
  rw [h0, Ideal.scalar_cmpf_def]
  unfold Ideal.cmp
  by_cases h : (0 : EReal) < k1_pay4 (itK b M n) (itK b M (n + 1)) <;> simp [h]

/-- A step that changes nothing is followed by such steps only. -/
theorem itK_rest (b : FVec Ideal S1x2560 .f32) (M : FVec Ideal S2560x2560 .f32) {n : ℕ} (h : itK b M n = itK b M (n + 1)) :
    ∀ d, itK b M (n + d) = itK b M n
  | 0 => rfl
  | d + 1 => by
    show k1_pay5 b (itK b M (n + d)) M = _
    rw [itK_rest b M h d]
    exact h.symm

/-- An iteration whose row is settled after 2560 steps has a test that ends by then at the settled row. -/
theorem settles_of (b : FVec Ideal S1x2560 .f32) (M : FVec Ideal S2560x2560 .f32) (h : itK b M 2560 = itK b M 2561) : Settles b M where
  stop n hn hgo := by
    rw [go_iff, not_not] at hgo
    obtain ⟨d, hd⟩ : ∃ d, 2560 = n + d := ⟨2560 - n, by omega⟩
    exact hgo.symm.trans ((congrArg (itK b M) hd).trans (itK_rest b M hgo d)).symm
  last := by rw [go_iff, not_not]; exact h

section Block

variable (r0 r1 r2 r3 : ℕ → FVec Ideal S1x2560 .f32) (c : ℕ → Fin 4 → EReal)

/-- Box `i` of the sequence overlaps box `j` by more than the threshold. -/
def OverAt (i j : ℕ) : Prop := Over (c i) (c j)

/-- The eight rows hold the sequence's boxes in order. -/
def Laid : Prop := ∀ k < 8, ∀ y : Fin 2560, boxAt (r0 k) (r1 k) (r2 k) (r3 k) y = c (2560 * k + y.val)

variable {r0 r1 r2 r3 c}

/-- The count over the earlier blocks: positive exactly when a kept box of them suppresses the box. -/
theorem accK_at (hc : Laid r0 r1 r2 r3 c) (Kp : ℕ → FVec Ideal S1x2560 .f32) {k : ℕ} (hk : k < 8)
    (hKp : ∀ j < k, ∀ y : Fin 2560, Kp j (ValueIdx.ix2 0 y) = ind (Keep (OverAt c) (2560 * j + y.val))) (y : Fin 2560) :
    ∀ n, n ≤ k → 0 ≤ accK r0 r1 r2 r3 Kp k n (ValueIdx.ix2 0 y) ∧
      (0 < accK r0 r1 r2 r3 Kp k n (ValueIdx.ix2 0 y) ↔ ∃ i, i < 2560 * n ∧ Keep (OverAt c) i ∧ OverAt c i (2560 * k + y.val)) := by
  intro n
  induction n with
  | zero =>
    intro _
    have e : accK r0 r1 r2 r3 Kp k 0 (ValueIdx.ix2 0 y) = (0 : EReal) := Ideal.ofBits_zero_f32
    rw [e]
    refine ⟨le_refl _, ⟨fun h => absurd h (lt_irrefl _), fun ⟨i, hi, _⟩ => absurd hi (by omega)⟩⟩
  | succ n ih =>
    intro hn
    obtain ⟨h1, h2⟩ := ih (by omega)
    have e : accK r0 r1 r2 r3 Kp k (n + 1) (ValueIdx.ix2 0 y) = accK r0 r1 r2 r3 Kp k n (ValueIdx.ix2 0 y)
        + ∑ t : Fin 2560, ind (Keep (OverAt c) (2560 * n + t.val) ∧ OverAt c (2560 * n + t.val) (2560 * k + y.val)) := by
      show k1_pay26 _ _ _ _ _ _ _ _ _ _ = _
      rw [pay26_at]
      refine congrArg (accK r0 r1 r2 r3 Kp k n (ValueIdx.ix2 0 y) + ·) (Finset.sum_congr rfl fun t _ => ?_)
      rw [hKp n (by omega) t, ind_mul, hc n (by omega), hc k hk]
      rfl
    rw [e]
    obtain ⟨g1, g2⟩ := count_add _ h1 fun t : Fin 2560 => Keep (OverAt c) (2560 * n + t.val) ∧ OverAt c (2560 * n + t.val) (2560 * k + y.val)
    refine ⟨g1, g2.trans ?_⟩
    rw [h2]
    constructor
    · rintro (⟨i, hi, h⟩ | ⟨t, h⟩)
      · exact ⟨i, by omega, h⟩
      · exact ⟨2560 * n + t.val, by have := t.isLt; omega, h⟩
    · rintro ⟨i, hi, h⟩
      by_cases hin : i < 2560 * n
      · exact Or.inl ⟨i, hin, h⟩
      · refine Or.inr ⟨⟨i - 2560 * n, by omega⟩, ?_⟩
        have : 2560 * n + (i - 2560 * n) = i := by omega
        simpa only [this] using h

/-- The iteration of block `k`: from step `y` on, the row's element `y` says whether the box is kept. -/
theorem itK_at (hc : Laid r0 r1 r2 r3 c) (Kp : ℕ → FVec Ideal S1x2560 .f32) {k : ℕ} (hk : k < 8)
    (hKp : ∀ j < k, ∀ y : Fin 2560, Kp j (ValueIdx.ix2 0 y) = ind (Keep (OverAt c) (2560 * j + y.val))) (n : ℕ) (y : Fin 2560) (hy : y.val ≤ n) :
    itK (base r0 r1 r2 r3 Kp k) (mat r0 r1 r2 r3 k) n (ValueIdx.ix2 0 y) = ind (Keep (OverAt c) (2560 * k + y.val)) := by
  have hb : ∀ y : Fin 2560, base r0 r1 r2 r3 Kp k (ValueIdx.ix2 0 y)
      = ind (∀ i, i < 2560 * k → Keep (OverAt c) i → ¬ OverAt c i (2560 * k + y.val)) := by
    intro y
    unfold base
    rw [pay33_at]
    refine ind_congr ?_
    rw [(accK_at hc Kp hk hKp y k le_rfl).2]
    push Not
    exact Iff.rfl
  have hm : ∀ x y : Fin 2560, mat r0 r1 r2 r3 k (ValueIdx.ix2 x y) = ind (OverAt c (2560 * k + x.val) (2560 * k + y.val) ∧ x.val < y.val) := by
    intro x y
    unfold mat
    rw [pay32_at, pay1_at, ind_mul, hc k hk, hc k hk]
    rfl
  have hi : ∀ n, ∀ y : Fin 2560, itK (base r0 r1 r2 r3 Kp k) (mat r0 r1 r2 r3 k) n (ValueIdx.ix2 0 y)
      = ind (itK (base r0 r1 r2 r3 Kp k) (mat r0 r1 r2 r3 k) n (ValueIdx.ix2 0 y) ≠ 0) := by
    intro n y
    have key : ∃ p : Prop, itK (base r0 r1 r2 r3 Kp k) (mat r0 r1 r2 r3 k) n (ValueIdx.ix2 0 y) = ind p := by
      cases n with
      | zero => exact ⟨_, hb y⟩
      | succ n => exact ⟨_, (pay5_at _ _ _ y).trans (by rw [hb y, ind_mul])⟩
    obtain ⟨p, hp⟩ := key
    rw [hp]
    exact ind_congr ind_ne_zero.symm
  have fix := keep_of_fix (OverAt c) (2560 * k) 2560
    (fun y => ∀ i, i < 2560 * k → Keep (OverAt c) i → ¬ OverAt c i (2560 * k + y))
    (fun n y => ∃ h : y < 2560, itK (base r0 r1 r2 r3 Kp k) (mat r0 r1 r2 r3 k) n (ValueIdx.ix2 0 ⟨y, h⟩) ≠ 0)
    (fun y hy => Iff.rfl)
    (fun y hy => by
      constructor
      · rintro ⟨_, h⟩
        exact ind_ne_zero.mp (fun h0 => h ((hb ⟨y, hy⟩).trans h0))
      · intro h
        exact ⟨hy, fun h0 => ind_ne_zero.mpr h ((hb ⟨y, hy⟩).symm.trans h0)⟩)
    (fun n y hy => by
      have e : itK (base r0 r1 r2 r3 Kp k) (mat r0 r1 r2 r3 k) (n + 1) (ValueIdx.ix2 0 ⟨y, hy⟩)
          = ind ((∀ i, i < 2560 * k → Keep (OverAt c) i → ¬ OverAt c i (2560 * k + y)) ∧
              ∀ t : Fin 2560, ¬ (itK (base r0 r1 r2 r3 Kp k) (mat r0 r1 r2 r3 k) n (ValueIdx.ix2 0 t) ≠ 0
                ∧ OverAt c (2560 * k + t.val) (2560 * k + y) ∧ t.val < y)) := by
        show k1_pay5 _ _ _ _ = _
        rw [pay5_at, hb, ind_mul]
        refine ind_congr (and_congr Iff.rfl ?_)
        rw [← sum_ind_eq_zero]
        refine Eq.congr_left (Finset.sum_congr rfl fun t _ => ?_)
        rw [hi n t, hm, ind_mul]
        exact ind_congr (and_congr ind_ne_zero.symm Iff.rfl)
      constructor
      · rintro ⟨_, h⟩
        rw [e, ind_ne_zero] at h
        exact ⟨h.1, fun x hx ⟨_, h1⟩ h2 => h.2 ⟨x, hx⟩ ⟨h1, h2⟩⟩
      · rintro ⟨h1, h2⟩
        refine ⟨hy, ?_⟩
        rw [e, ind_ne_zero]
        exact ⟨h1, fun t ht => h2 t.val t.isLt ⟨t.isLt, ht.1⟩ ht.2⟩)
    n y.val y.isLt hy
  rw [hi]
  refine ind_congr (Iff.trans ?_ fix)
  exact ⟨fun h => ⟨y.isLt, h⟩, fun ⟨_, h⟩ => h⟩

/-- The keep rows after `k` blocks are the greedy suppression's. -/
theorem keeps_at (hc : Laid r0 r1 r2 r3 c) : ∀ k, k ≤ 8 → ∀ j < k, ∀ y : Fin 2560,
    keeps r0 r1 r2 r3 k j (ValueIdx.ix2 0 y) = ind (Keep (OverAt c) (2560 * j + y.val)) := by
  intro k
  induction k with
  | zero => intro _ j hj; omega
  | succ k ih =>
    intro hk j hj y
    by_cases h : j = k
    · subst h
      rw [keeps_succ_self, pay2_at]
      unfold keepRow
      rw [pay35_at]
      exact itK_at hc _ (by omega) (ih (by omega)) 2560 y (by have := y.isLt; omega)
    · rw [keeps_succ_lt _ _ _ _ h]
      exact ih (by omega) j (by omega) y

/-- The result's row `k` is the scores where the box is kept, zero elsewhere. -/
theorem outRow_at (hc : Laid r0 r1 r2 r3 c) (r4 : ℕ → FVec Ideal S1x2560 .f32) {k : ℕ} (hk : k < 8) (y : Fin 2560) :
    outRow r0 r1 r2 r3 r4 k (ValueIdx.ix2 0 y) = r4 k (ValueIdx.ix2 0 y) * ind (Keep (OverAt c) (2560 * k + y.val)) := by
  unfold outRow
  rw [pay3_at]
  unfold keepRow
  rw [pay35_at, itK_at hc _ hk (keeps_at hc k (by omega)) 2560 y (by have := y.isLt; omega)]

/-- The iteration of every block comes to rest. -/
theorem settles (hc : Laid r0 r1 r2 r3 c) {k : ℕ} (hk : k < 8) :
    Settles (base r0 r1 r2 r3 (keeps r0 r1 r2 r3 k) k) (mat r0 r1 r2 r3 k) := by
  refine settles_of _ _ (funext fun x => ?_)
  have hx : x = ValueIdx.ix2 (0 : Fin 1) (x 1 : Fin 2560) := by
    funext a
    match a with
    | ⟨0, _⟩ =>
      have h1 : ∀ x y : Fin 1, x = y := fun x y => Subsingleton.elim _ _
      exact h1 _ _
    | ⟨1, _⟩ => rfl
  obtain ⟨y, hy⟩ : ∃ y : Fin 2560, x = ValueIdx.ix2 (0 : Fin 1) y := ⟨_, hx⟩
  have h2 := y.isLt
  rw [hy, itK_at hc _ hk (keeps_at hc k (by omega)) 2560 y (by omega), itK_at hc _ hk (keeps_at hc k (by omega)) 2561 y (by omega)]

end Block

/-- The box at place `n` of four eight-row arrays read row after row. -/
def boxes8 (X0 X1 X2 X3 : FVec Ideal S8x2560 .f32) (n : ℕ) : Fin 4 → EReal :=
  boxAt (row8 X0 (n / 2560)) (row8 X1 (n / 2560)) (row8 X2 (n / 2560)) (row8 X3 (n / 2560)) ⟨n % 2560, Nat.mod_lt _ (by omega)⟩

theorem laid8 (X0 X1 X2 X3 : FVec Ideal S8x2560 .f32) : Laid (row8 X0) (row8 X1) (row8 X2) (row8 X3) (boxes8 X0 X1 X2 X3) := by
  intro k hk y
  unfold boxes8
  have e1 : (2560 * k + y.val) / 2560 = k := by have := y.isLt; omega
  have e2 : (⟨(2560 * k + y.val) % 2560, Nat.mod_lt _ (by omega)⟩ : Fin 2560) = y := Fin.ext (by show (2560 * k + y.val) % 2560 = y.val; have := y.isLt; omega)
  rw [e1, e2]

/-- Every block of the kernel comes to rest, whatever the operands. -/
theorem rests (X0 X1 X2 X3 : FVec Ideal S8x2560 .f32) : Rests X0 X1 X2 X3 := fun k hk => settles (laid8 X0 X1 X2 X3) hk

/-- The kernel's result: the scores where the greedy suppression keeps the box, zero elsewhere. -/
theorem outBlk_at (X0 X1 X2 X3 X4 : FVec Ideal S8x2560 .f32) (k : Fin 8) (y : Fin 2560) :
    outBlk X0 X1 X2 X3 X4 (ValueIdx.ix2 k y) = X4 (ValueIdx.ix2 k y) * ind (Keep (OverAt (boxes8 X0 X1 X2 X3)) (2560 * k.val + y.val)) := by
  have h := outRow_at (laid8 X0 X1 X2 X3) (row8 X4) k.isLt y
  have e : row8 X4 k.val (ValueIdx.ix2 0 y) = X4 (ValueIdx.ix2 k y) := by
    unfold row8
    rw [dif_pos k.isLt]
  rw [e] at h
  exact h

end Cert.Proof.Nms
-- ==== Proof.KernelVals.lean ====
/-
  The kernel's result at an index: a box's score if the greedy rule keeps the box.
-/
module

public import proofs.«01_k».proof.Proof.HostAt
public import proofs.«01_k».proof.Proof.Blocks

@[expose] public section

set_option maxRecDepth 4096

noncomputable section

namespace Cert.Proof

open Cert.KernelIdeal Cert.KernelIdeal.Gen
open Cert.Proof.Nms (Over OverAt ind boxes8 boxAt row8)
open Idealize.ShloMosaic Idealize.ShloMosaic.TcCoe

variable (m : (ℓ : Loc nD τ sig) → Buf (Elt Ideal) ℓ) (d : Dev nD)

/-- The boxes in the order of their scores. -/
def kboxes (i : ℕ) : Fin 4 → EReal :=
  if h : i < 20000 then fun a => (m (d.tc.loc main_arg0) : FVec Ideal S20000x4 .f32) (ValueIdx.ix2 (perm m d ⟨i, h⟩) a) else fun _ => 0

/-- A box's score. -/
def kscore (n : Fin 20000) : EReal := (m (d.tc.loc main_arg1) : FVec Ideal S20000 .f32) (ValueIdx.ix1 n)

variable (hl : ∀ d, ListOK (Cert.Proof.ix1 m d))

/-- The boxes the suppression call takes, before the appended ones. -/
theorem boxes8_at (n : ℕ) (h : n < 20000) :
    boxes8 (V2 m hl d main_v14) (V2 m hl d main_v17) (V2 m hl d main_v20) (V2 m hl d main_v23) n = kboxes m d n := by
  have hk : n / 2560 < 8 := by omega
  have hn : (⟨n, h⟩ : Fin 20000).val = 2560 * (⟨n / 2560, hk⟩ : Fin 8).val + (⟨n % 2560, Nat.mod_lt _ (by omega)⟩ : Fin 2560).val := by
    show n = 2560 * (n / 2560) + n % 2560; omega
  unfold boxes8 boxAt kboxes row8
  simp only [dif_pos hk, dif_pos h]
  funext a
  fin_cases a
  · exact V2_v14_at m d hl _ _ _ hn
  · exact V2_v17_at m d hl _ _ _ hn
  · exact V2_v20_at m d hl _ _ _ hn
  · exact V2_v23_at m d hl _ _ _ hn

/-- The kernel's result: a box's score if the box is kept, else zero times it. -/
theorem kernel_at (r : Fin 20000) :
    (V4 m hl d main_v34 : FVec Ideal S20000 .f32) (ValueIdx.ix1 (perm m d r))
      = kscore m d (perm m d r) * ind (Keep (fun i j => Over (kboxes m d i) (kboxes m d j)) r.val) := by
  have hr : r.val < 20480 := by omega
  have hk : r.val / 2560 < 8 := by omega
  have hn : r.val = 2560 * (⟨r.val / 2560, hk⟩ : Fin 8).val + (⟨r.val % 2560, Nat.mod_lt _ (by omega)⟩ : Fin 2560).val := by
    show r.val = 2560 * (r.val / 2560) + r.val % 2560; omega
  refine (V4_at m d hl (perm m d r) r rfl hr).trans ((vals3_at m d hl _ _ ⟨r.val, hr⟩ hn).trans ((Nms.outBlk_at _ _ _ _ _ _ _).trans ?_))
  rw [← hn]
  refine congrArg₂ (fun x y : EReal => x * y) (V2_v26_at m d hl _ _ r hn) (Nms.ind_congr ?_)
  refine keep_congr (N := 20000) (fun i j hij hj => ?_) r.val r.isLt
  show Over _ _ ↔ Over _ _
  rw [boxes8_at m d hl i (by omega), boxes8_at m d hl j hj]

end Cert.Proof
-- ==== Proof.RefStep.lean ====
/-
  One trip of the reference's loop at an index: trip `k` drops every later box that box `k` overlaps, if box `k` is kept.
-/
module

public import proofs.«01_k».proof.Proof.Gen.ReferenceIdeal.Run
public import proofs.«01_k».proof.Proof.Values
public import Idealize.ShloMosaic.Lib.DynamicIndex
public import Idealize.ShloMosaic.Lib.Routing.Ops
public import Idealize.ShloMosaic.Lib.Routing.OpsSet

@[expose] public section

set_option maxRecDepth 8192

noncomputable section

namespace Cert.Proof.Ref

open Cert.ReferenceIdeal Cert.ReferenceIdeal.Gen Cert.ReferenceIdeal.Value
open Cert.Proof.Nms (interOf areaOf Over)
open Idealize.ShloMosaic Idealize.ShloMosaic.TcCoe

section Reads

variable {α : Type}

/-- One entry of a vector, read at a position that is in range. -/
theorem read1 (v : S20000.Idx → α) (st : Fin 1 → Int) (k : Fin 20000) (h0 : st 0 = k.val) (hf : S20000.Slices (fun _ => 0) S1)
    (hc : S1.ShapeCasts S_) (i : S_.Idx) : shapeCast S_ (Host.dynamicSlice S1 v st hf) hc i = v (ValueIdx.ix1 k) := by
  have hs : S20000.Slices (fun _ => k.val) S1 := ⟨rfl, fun a => by have := k.isLt; fin_cases a; show k.val + 1 ≤ 20000; omega⟩
  rw [Host.dynamicSlice_eq_extractStridedSlice S1 v st (fun _ => k.val) hf hs (fun a => by fin_cases a; exact h0)]
  have hn : ∀ j : S1.Idx, extractStridedSlice S1 (fun _ => k.val) v hs j = v (ValueIdx.ix1 k) := fun j => by
    refine extractStridedSlice_apply _ _ _ _ _ fun a => ?_
    have h1 : ∀ x : Fin 1, x.val = 0 := fun x => by omega
    fin_cases a
    show k.val = k.val + (j 0).val
    have := h1 (j 0); omega
  exact hn _

/-- One entry of a table of boxes, read at a position that is in range. -/
theorem read2 (v : S20000x4.Idx → α) (st : Fin 2 → Int) (k : Fin 20000) (c : Fin 4) (h0 : st 0 = k.val) (h1 : st 1 = c.val)
    (hf : S20000x4.Slices (fun _ => 0) S1x1) (hc : S1x1.ShapeCasts S_) (i : S_.Idx) :
    shapeCast S_ (Host.dynamicSlice S1x1 v st hf) hc i = v (ValueIdx.ix2 k c) := by
  have hs : S20000x4.Slices (![k.val, c.val]) S1x1 := ⟨rfl, fun a => by
    have := k.isLt; have := c.isLt
    fin_cases a
    · show k.val + 1 ≤ 20000; omega
    · show c.val + 1 ≤ 4; omega⟩
  rw [Host.dynamicSlice_eq_extractStridedSlice S1x1 v st (![k.val, c.val]) hf hs (fun a => by fin_cases a; exacts [h0, h1])]
  have hn : ∀ j : S1x1.Idx, extractStridedSlice S1x1 (![k.val, c.val]) v hs j = v (ValueIdx.ix2 k c) := fun j => by
    refine extractStridedSlice_apply _ _ _ _ _ fun a => ?_
    have hz : ∀ x : Fin 1, x.val = 0 := fun x => by omega
    fin_cases a
    · show k.val = k.val + (j 0).val; have := hz (j 0); omega
    · show c.val = c.val + (j 1).val; have := hz (j 1); omega
  exact hn _

/-- A column of a table of boxes. -/
theorem column (v : S20000x4.Idx → α) (c : Fin 4) (off : Fin 2 → Nat) (h0 : off 0 = 0) (h1 : off 1 = c.val) (hs : S20000x4.Slices off S20000x1) (hc : S20000x1.ShapeCasts S20000) (j : Fin 20000) :
    shapeCast S20000 (extractStridedSlice S20000x1 off v hs) hc (ValueIdx.ix1 j) = v (ValueIdx.ix2 j c) := by
  refine (shapeCast_apply _ _ _ (ValueIdx.ix2 j (0 : Fin 1)) ?_).trans ?_
  · rw [Shape.rowMajor_val_one, Shape.rowMajor_val_two]; show j.val * 1 + 0 = j.val; omega
  refine extractStridedSlice_apply _ _ _ _ (ValueIdx.ix2 j c) ?_
  intro a; fin_cases a
  · show j.val = off 0 + j.val; omega
  · show c.val = off 1 + 0; omega

/-- A number spread over a vector. -/
theorem spread (v : S_.Idx → α) (x : α) (hv : ∀ i, v i = x) (hb : S_.BroadcastsInDim S20000 ![]) (j : S20000.Idx) : broadcastInDim S20000 ![] hb v j = x := hv _

/-- A position that is not negative is not wrapped. -/
theorem wrapped (z : IVec S_ 32) (n : Nat) (hz : z = constantI S_ 32 (BitVec.ofNat 32 n)) (hn : n < 2 ^ 31) (d : IVec S_ 32) (i : S_.Idx) :
    BitVec.toInt (select (cmpi .slt z (constantI S_ 32 0#32)) (addi z d) z i) = (n : Int) := by
  subst hz; exact toInt_wrap_ofNat n hn

end Reads

/-- The box at a position, of a table of boxes. -/
def boxRow (v : FVec Ideal S20000x4 .f32) (j : Fin 20000) : Fin 4 → EReal := fun c => v (ValueIdx.ix2 j c)

variable (V : Valuation τ sig (Elt Ideal))

/-- The boxes the loop reads. -/
abbrev bx : Fin 20000 → Fin 4 → EReal := boxRow (V (Proc.devRef .tc main_v26_0))

variable (k : Fin 20000) (hk : (V (Proc.devRef .tc main_v26_4) : IVec S_ 32) = constantI S_ 32 (BitVec.ofNat 32 k.val))
include hk

/-- The area of the common part of box `k` and box `j`. -/
theorem inter_at (j : Fin 20000) :
    (res_main_while0b_v101 (F := Ideal) V : FVec Ideal S20000 .f32) (ValueIdx.ix1 j) = interOf (bx V k) (bx V j) := by
  have hn : k.val < 2 ^ 31 := by omega
  unfold res_main_while0b_v101 interOf
  refine congrArg₂ (fun x y : EReal => x * y)
    (congrArg₂ (fun x y : EReal => max x y) (congrArg₂ (fun x y : EReal => x + y) (congrArg₂ (fun x y : EReal => x - y)
      (congrArg₂ (fun x y : EReal => min x y) ?_ ?_) (congrArg₂ (fun x y : EReal => max x y) ?_ ?_)) rfl) rfl)
    (congrArg₂ (fun x y : EReal => max x y) (congrArg₂ (fun x y : EReal => x + y) (congrArg₂ (fun x y : EReal => x - y)
      (congrArg₂ (fun x y : EReal => min x y) ?_ ?_) (congrArg₂ (fun x y : EReal => max x y) ?_ ?_)) rfl) rfl)
  · exact spread _ _ (fun i => read2 _ _ k 2 (wrapped _ _ hk hn (constantI S_ 32 20000#32) (Shape.Idx.first h_S_)) (wrapped (constantI S_ 32 2#32) 2 rfl (by decide) (constantI S_ 32 4#32) (Shape.Idx.first h_S_)) _ _ i) _ _
  · exact column _ 2 _ rfl rfl _ _ j
  · exact spread _ _ (fun i => read2 _ _ k 0 (wrapped _ _ hk hn (constantI S_ 32 20000#32) (Shape.Idx.first h_S_)) (wrapped (constantI S_ 32 0#32) 0 rfl (by decide) (constantI S_ 32 4#32) (Shape.Idx.first h_S_)) _ _ i) _ _
  · exact column _ 0 _ rfl rfl _ _ j
  · exact spread _ _ (fun i => read2 _ _ k 3 (wrapped _ _ hk hn (constantI S_ 32 20000#32) (Shape.Idx.first h_S_)) (wrapped (constantI S_ 32 3#32) 3 rfl (by decide) (constantI S_ 32 4#32) (Shape.Idx.first h_S_)) _ _ i) _ _
  · exact column _ 3 _ rfl rfl _ _ j
  · exact spread _ _ (fun i => read2 _ _ k 1 (wrapped _ _ hk hn (constantI S_ 32 20000#32) (Shape.Idx.first h_S_)) (wrapped (constantI S_ 32 1#32) 1 rfl (by decide) (constantI S_ 32 4#32) (Shape.Idx.first h_S_)) _ _ i) _ _
  · exact column _ 1 _ rfl rfl _ _ j

/-- Which boxes are kept after trip `k`, when the areas are the boxes' own and the third buffer holds the positions. -/
theorem keep_step (ha : ∀ j, (V (Proc.devRef .tc main_v26_1) : FVec Ideal S20000 .f32) (ValueIdx.ix1 j) = areaOf (bx V j))
    (hi : (V (Proc.devRef .tc main_v26_2) : IVec S20000 32) = iotaInDim S20000 32 0) (j : Fin 20000) :
    (step_main_v26_5 (F := Ideal) V : IVec S20000 1) (ValueIdx.ix1 j) = 1#1 ↔
      (V (Proc.devRef .tc main_v26_5) : IVec S20000 1) (ValueIdx.ix1 j) = 1#1 ∧
        ¬ (Over (bx V k) (bx V j) ∧ k.val < j.val ∧ (V (Proc.devRef .tc main_v26_5) : IVec S20000 1) (ValueIdx.ix1 k) = 1#1) := by
  have hn : k.val < 2 ^ 31 := by omega
  have hw := fun z hz => wrapped z k.val hz hn (constantI S_ 32 20000#32) (Shape.Idx.first h_S_)
  have bits : ∀ a b c d : BitVec 1, (a &&& ~~~(b &&& c &&& d) = 1#1) ↔ (a = 1#1 ∧ ¬ (b = 1#1 ∧ c = 1#1 ∧ d = 1#1)) := by decide
  unfold step_main_v26_5
  refine (bits _ _ _ _).trans (and_congr Iff.rfl (not_congr (and_congr ?_ (and_congr ?_ ?_))))
  · refine Iff.trans (b := (Ideal.cmp .ogt (Ideal.div (interOf (bx V k) (bx V j)) (areaOf (bx V k) + areaOf (bx V j) - interOf (bx V k) (bx V j))) (Ideal.ofBits .f32 0x3E99999A#32)) = 1#1) ?_ ?_
    · refine iff_of_eq (congrArg (fun x : BitVec 1 => x = 1#1) (congrArg (fun x : EReal => Ideal.cmp .ogt x (Ideal.ofBits .f32 0x3E99999A#32)) (congrArg₂ (fun x y : EReal => Ideal.div x y) (inter_at V k hk j)
        (congrArg₂ (fun x y : EReal => x - y) (congrArg₂ (fun x y : EReal => x + y) ?_ (ha j)) (inter_at V k hk j)))))
      exact (spread _ _ (fun i => read1 _ _ k (hw _ hk) _ _ i) _ _).trans (ha k)
    · have hb : ∀ p : Prop, [Decidable p] → (BitVec.ofBool (decide p) = 1#1 ↔ p) := fun p _ => by by_cases h : p <;> simp [h]
      unfold Ideal.cmp Over
      exact hb _
  · refine Iff.trans (b := IntOp.cmpi .sgt (BitVec.ofNat 32 j.val) (BitVec.ofNat 32 k.val) = 1#1) ?_ ?_
    · exact iff_of_eq (congrArg (fun x : BitVec 1 => x = 1#1) (congrArg₂ (IntOp.cmpi .sgt) (congrFun hi _) (spread _ _ (fun i => congrFun hk i) _ _)))
    · have hj := j.isLt; have hk' := k.isLt
      show BitVec.ofBool ((BitVec.ofNat 32 k.val).slt (BitVec.ofNat 32 j.val)) = 1#1 ↔ _
      have e : ∀ n < 20000, (BitVec.ofNat 32 n).toInt = (n : Int) := fun n h => by
        rw [BitVec.toInt_eq_toNat_of_lt (by rw [BitVec.toNat_ofNat, Nat.mod_eq_of_lt (by omega)]; omega), BitVec.toNat_ofNat, Nat.mod_eq_of_lt (by omega)]
      rw [BitVec.slt_eq_decide, e _ hj, e _ hk']
      by_cases h : k.val < j.val
      · simp [h]
      · simp [h]
  · exact iff_of_eq (congrArg (fun x : BitVec 1 => x = 1#1) (spread _ _ (fun i => read1 _ _ k (hw _ hk) _ _ i) _ _))

end Cert.Proof.Ref
-- ==== Proof.RefVals.lean ====
/-
  The reference's values: the arrays its loop starts from, which boxes its loop keeps, and its result.
-/
module

public import proofs.«01_k».proof.Proof.RefStep
public import proofs.«01_k».proof.Proof.Greedy
public import proofs.«01_k».proof.Proof.Order

@[expose] public section

set_option maxRecDepth 8192

noncomputable section

namespace Cert.Proof.Ref

open Cert.ReferenceIdeal Cert.ReferenceIdeal.Gen Cert.ReferenceIdeal.Value
open Cert.Proof.Nms (interOf areaOf Over ind ind_pos ind_neg)
open Idealize.ShloMosaic Idealize.ShloMosaic.TcCoe Idealize.ShloMosaic.StableHlo

/-- A vector's index of one number. -/
theorem ix1_ofFin {n : ℕ} (r : Fin n) : (ValueIdx.ix1 r : (⟨1, ![n]⟩ : Shape).Idx) = Shape.Idx.ofFin r := by
  funext a; fin_cases a; rfl

section Kept

variable {F : FTy → Type} [FloatOps F]

/-- The buffers that are read after the loop and set before it. -/
abbrev fixedRefs : List (Ref sig .tc) := [main_arg0, main_arg1, main_v1]

set_option maxRecDepth 100000 in
/-- The body leaves those buffers alone. -/
theorem body_keeps (X : Valuation τ sig (Elt F)) (b : Ref sig .tc) (hb : b ∈ fixedRefs) :
    after while0Ops0 X (Proc.devRef .tc b) = X (Proc.devRef .tc b) := by
  have hs : ∀ Y : Valuation τ sig (Elt F), after while0Ops0_step Y (Proc.devRef .tc b) = Y (Proc.devRef .tc b) := fun Y => by
    fin_cases hb <;> after_results
  simp only [while0Ops0_cut, after_append]
  rw [hs]
  fin_cases hb <;>
    exact (after_of_writes_sub trip_w7 _ trip_w7_writes (by decide +kernel)).trans ((after_of_writes_sub trip_w6 _ trip_w6_writes (by decide +kernel)).trans
      ((after_of_writes_sub trip_w5 _ trip_w5_writes (by decide +kernel)).trans ((after_of_writes_sub trip_w4 _ trip_w4_writes (by decide +kernel)).trans
      ((after_of_writes_sub trip_w3 _ trip_w3_writes (by decide +kernel)).trans ((after_of_writes_sub trip_w2 _ trip_w2_writes (by decide +kernel)).trans
      ((after_of_writes_sub trip_w1 _ trip_w1_writes (by decide +kernel)).trans (after_of_writes_sub trip_w0 _ trip_w0_writes (by decide +kernel))))))))

/-- So does the condition. -/
theorem cond_keeps' (X : Valuation τ sig (Elt F)) (b : Ref sig .tc) (hb : b ∈ fixedRefs) : after condOps X (Proc.devRef .tc b) = X (Proc.devRef .tc b) :=
  after_of_writes_sub condOps X condOps_writes (by fin_cases hb <;> decide +kernel)

variable (m : (ℓ : Loc nD τ sig) → Buf (Elt F) ℓ) (c : Dev nD)

/-- Those buffers keep their contents through every trip. -/
theorem atK_keeps (b : Ref sig .tc) (hb : b ∈ fixedRefs) : ∀ k, atK m k c (Proc.devRef .tc b) = entryContents preI m c (Proc.devRef .tc b)
  | 0 => rfl
  | k + 1 => by
    rw [show atK m (k + 1) c = after while0Ops0 (after condOps (atK m k c)) from rfl, body_keeps _ b hb, cond_keeps' _ b hb, atK_keeps b hb k]

/-- The contents after the loop and the condition's last run. -/
def loopEnd : Valuation τ sig (Elt F) := after condOps (atK m 20000 c)

theorem loopEnd_fixed (b : Ref sig .tc) (hb : b ∈ fixedRefs) : loopEnd m c (Proc.devRef .tc b) = entryContents preI m c (Proc.devRef .tc b) :=
  (cond_keeps' _ b hb).trans (atK_keeps m c b hb 20000)

theorem final_eq : finalContents condOps preI bodyI postI 20000 m c = after hostOps0_5 (after hostOps0_4 (after hostOps0_3 (loopEnd m c))) := rfl

theorem entry_arg0 : entryContents preI m c (Proc.devRef .tc main_arg0) = m ((c.tc : Thread nD τ).loc main_arg0) := by
  simp only [entryContents, afterL_cons, afterL_nil]
  after_reads_simp

theorem entry_arg1 : entryContents preI m c (Proc.devRef .tc main_arg1) = m ((c.tc : Thread nD τ).loc main_arg1) := by
  simp only [entryContents, afterL_cons, afterL_nil]
  after_reads_simp

/-- The row numbers in the scores' order. -/
def rows : IVec S20000 32 :=
  (Host.sort2 S20000 0 comparator_f32_i32_d0 (Host.negf (m ((c.tc : Thread nD τ).loc main_arg1) : FVec F S20000 .f32)) (iotaInDim S20000 32 0)).2

/-- The same with negative numbers wrapped, as a column. -/
def rowsCol (v : IVec S20000 32) : IVec S20000x1 32 :=
  broadcastInDim S20000x1 ![0] bcast_S20000_S20000x1_0 (select (cmpi .slt v (broadcastInDim S20000 ![] bcast_S_S20000 (constantI S_ 32 0#32)))
    (addi v (broadcastInDim S20000 ![] bcast_S_S20000 (constantI S_ 32 20000#32))) v)

theorem entry_v1 : (entryContents preI m c (Proc.devRef .tc main_v1) : IVec S20000 32) = rows m c := by
  simp only [entryContents, afterL_cons, afterL_nil]
  after_reads_simp
  rfl

theorem entry_v26_0 : (entryContents preI m c (Proc.devRef .tc main_v26_0) : FVec F S20000x4 .f32)
    = Host.gather gather_S20000x4_S20000x1_S20000x4_1_0_n_n_0_1_14 (m ((c.tc : Thread nD τ).loc main_arg0) : FVec F S20000x4 .f32) (rowsCol (rows m c)) := by
  simp only [entryContents, afterL_cons, afterL_nil]
  after_reads_simp
  rfl

theorem entry_v26_1 : (entryContents preI m c (Proc.devRef .tc main_v26_1) : FVec F S20000 .f32)
    = (fun v : FVec F S20000x4 .f32 => mulf
        (addf (subf (shapeCast S20000 (extractStridedSlice S20000x1 ![0, 2] v slices_S20000x4_S20000x1_0_2) shapeCasts_S20000x1_S20000)
          (shapeCast S20000 (extractStridedSlice S20000x1 ![0, 0] v slices_S20000x4_S20000x1_0_0) shapeCasts_S20000x1_S20000)) (broadcastInDim S20000 ![] bcast_S_S20000 (constant S_ .f32 0x3F800000#32)))
        (addf (subf (shapeCast S20000 (extractStridedSlice S20000x1 ![0, 3] v slices_S20000x4_S20000x1_0_3) shapeCasts_S20000x1_S20000)
          (shapeCast S20000 (extractStridedSlice S20000x1 ![0, 1] v slices_S20000x4_S20000x1_0_1) shapeCasts_S20000x1_S20000)) (broadcastInDim S20000 ![] bcast_S_S20000 (constant S_ .f32 0x3F800000#32))))
      (entryContents preI m c (Proc.devRef .tc main_v26_0) : FVec F S20000x4 .f32) := by
  rw [entry_v26_0]
  simp only [entryContents, afterL_cons, afterL_nil]
  after_reads_simp
  rfl

theorem entry_v26_2 : (entryContents preI m c (Proc.devRef .tc main_v26_2) : IVec S20000 32) = iotaInDim S20000 32 0 := by
  simp only [entryContents, afterL_cons, afterL_nil]
  after_reads_simp
  rfl

theorem entry_v26_4 : (entryContents preI m c (Proc.devRef .tc main_v26_4) : IVec S_ 32) = constantI S_ 32 0#32 := by
  simp only [entryContents, afterL_cons, afterL_nil]
  after_reads_simp
  rfl

theorem entry_v26_5 : (entryContents preI m c (Proc.devRef .tc main_v26_5) : IVec S20000 1) = broadcastInDim S20000 ![] bcast_S_S20000 (constantI S_ 1 1#1) := by
  simp only [entryContents, afterL_cons, afterL_nil]
  after_reads_simp
  rfl

/-- The result, of the buffers the loop leaves. -/
theorem final_v37 (V : Valuation τ sig (Elt F)) : (after hostOps0_5 (after hostOps0_4 (after hostOps0_3 V)) (Proc.devRef .tc main_v37) : FVec F S20000 .f32)
    = mulf (V (Proc.devRef .tc main_arg1) : FVec F S20000 .f32) (select (Host.scatter scatter_S20000_S20000x1_S20000_n_0_0_1 (fun _ b => b)
        (broadcastInDim S20000 ![] bcast_S_S20000 (constantI S_ 1 0#1)) (rowsCol (V (Proc.devRef .tc main_v1) : IVec S20000 32)) (V (Proc.devRef .tc main_v26_5) : IVec S20000 1))
        (broadcastInDim S20000 ![] bcast_S_S20000 (constant S_ .f32 0x3F800000#32)) (broadcastInDim S20000 ![] bcast_S_S20000 (constant S_ .f32 0x00000000#32))) := by
  after_reads_simp
  simp -implicitDefEqProofs only [StableHlo.TRef.toBuf, StableHlo.TRef.ofBuf, cast_eq, id, rowsCol]

theorem final_arg (V : Valuation τ sig (Elt F)) (b : Ref sig .tc) (hb : b = main_arg0 ∨ b = main_arg1) :
    after hostOps0_5 (after hostOps0_4 (after hostOps0_3 V)) (Proc.devRef .tc b) = V (Proc.devRef .tc b) := by
  rcases hb with rfl | rfl <;> after_reads_simp

/-- The contents the reference ends with. -/
abbrev final (b : Ref sig .tc) : Buf (Elt F) ((c.tc : Thread nD τ).loc b) := finalContents condOps preI bodyI postI 20000 m c (Proc.devRef .tc b)

/-- The arguments are left as they were. -/
theorem final_args (b : Ref sig .tc) (hb : b = main_arg0 ∨ b = main_arg1) :
    final m c b = m ((c.tc : Thread nD τ).loc b) := by
  unfold final
  rw [final_eq, final_arg _ b hb]
  rcases hb with rfl | rfl
  · rw [loopEnd_fixed m c _ (by simp), entry_arg0]
  · rw [loopEnd_fixed m c _ (by simp), entry_arg1]

/-- The order of device `c`'s boxes. -/
def order : Fin 20000 → Fin 20000 :=
  orderOf comparator_f32_i32_d0 (Host.negf (m ((c.tc : Thread nD τ).loc main_arg1) : FVec F S20000 .f32))

theorem order_injective : Function.Injective (order m c) := orderOf_injective _ _

theorem order_surjective : Function.Surjective (order m c) := orderOf_surjective _ _

theorem rows_ofFin (r : Fin 20000) : rows m c (Shape.Idx.ofFin r) = BitVec.ofNat 32 (order m c r).val :=
  sort_rows (n := 20000) _ _ r

theorem rows_at (r : Fin 20000) : rows m c (ValueIdx.ix1 r) = BitVec.ofNat 32 (order m c r).val :=
  (congrArg (rows m c) (ix1_ofFin r)).trans (rows_ofFin m c r)

end Kept

section Ideal

variable (m : (ℓ : Loc nD τ sig) → Buf (Elt Ideal) ℓ) (c : Dev nD)

theorem rowsCol_at (r : Fin 20000) : rowsCol (rows m c) (ValueIdx.ix2 r (0 : Fin 1)) = BitVec.ofNat 32 (order m c r).val := by
  unfold rowsCol
  refine (broadcastInDim_apply _ _ _ _ (ValueIdx.ix1 r) (fun a => by fin_cases a; rfl)).trans ?_
  refine (Routing.wrap_of_lt (rows m c (ValueIdx.ix1 r)) _ ?_).trans (rows_at m c r)
  rw [rows_at, BitVec.toNat_ofNat]
  exact lt_of_le_of_lt (Nat.mod_le _ _) (by have := (order m c r).isLt; omega)

/-- The boxes in the order of their scores. -/
def boxes (i : ℕ) : Fin 4 → EReal :=
  if h : i < 20000 then boxRow (m ((c.tc : Thread nD τ).loc main_arg0) : FVec Ideal S20000x4 .f32) (order m c ⟨i, h⟩) else fun _ => 0

/-- Before trip `k`: the boxes, their areas, their positions, the trip's number, and which boxes are kept. -/
structure At (k : ℕ) : Prop where
  box : ∀ j : Fin 20000, bx (atK m k c) j = boxes m c j.val
  area : ∀ j : Fin 20000, (atK m k c (Proc.devRef .tc main_v26_1) : FVec Ideal S20000 .f32) (ValueIdx.ix1 j) = areaOf (bx (atK m k c) j)
  pos : (atK m k c (Proc.devRef .tc main_v26_2) : IVec S20000 32) = iotaInDim S20000 32 0
  num : (atK m k c (Proc.devRef .tc main_v26_4) : IVec S_ 32) = constantI S_ 32 (BitVec.ofNat 32 k)

theorem at_zero : At m c 0 where
  box j := by
    show boxRow (entryContents preI m c (Proc.devRef .tc main_v26_0) : FVec Ideal S20000x4 .f32) j = _
    rw [entry_v26_0]
    funext a
    unfold boxes boxRow
    rw [dif_pos j.isLt]
    exact Routing.gather_row _ rfl rfl rfl rfl rfl _ _ j a (order m c j) (rowsCol_at m c j) (by decide)
  area j := by
    show (entryContents preI m c (Proc.devRef .tc main_v26_1) : FVec Ideal S20000 .f32) (ValueIdx.ix1 j) = _
    rw [entry_v26_1]
    refine congrArg₂ (fun x y : EReal => x * y)
      (congrArg₂ (fun x y : EReal => x + y) (congrArg₂ (fun x y : EReal => x - y) ?_ ?_) rfl)
      (congrArg₂ (fun x y : EReal => x + y) (congrArg₂ (fun x y : EReal => x - y) ?_ ?_) rfl)
    · exact column _ 2 _ rfl rfl _ _ j
    · exact column _ 0 _ rfl rfl _ _ j
    · exact column _ 3 _ rfl rfl _ _ j
    · exact column _ 1 _ rfl rfl _ _ j
  pos := entry_v26_2 m c
  num := entry_v26_4 m c

/-- One trip's carried buffers, of the last trip's. -/
theorem next (k : ℕ) (b : Ref sig .tc) (hb : b ∈ carriedRefs) : atK m (k + 1) c (Proc.devRef .tc b) = STEP (atK m k c) (Proc.devRef .tc b) :=
  trip_agree (atK m k c) b hb

theorem at_succ (k : ℕ) (h : At m c k) : At m c (k + 1) := by
  have e0 := (next m c k main_v26_0 (by simp)).trans (STEP_main_v26_0 _)
  have e1 := (next m c k main_v26_1 (by simp)).trans (STEP_main_v26_1 _)
  have e2 := (next m c k main_v26_2 (by simp)).trans (STEP_main_v26_2 _)
  have e4 := (next m c k main_v26_4 (by simp)).trans (STEP_main_v26_4 _)
  have eb : ∀ j, bx (atK m (k + 1) c) j = bx (atK m k c) j := fun j => congrArg (fun v : FVec Ideal S20000x4 .f32 => boxRow v j) e0
  refine ⟨fun j => (eb j).trans (h.box j), fun j => (congrFun e1 _).trans ((h.area j).trans (congrArg areaOf (eb j).symm)), e2.trans h.pos, e4.trans ?_⟩
  show addi (atK m k c (Proc.devRef .tc main_v26_4) : IVec S_ 32) (constantI S_ 32 1#32) = _
  rw [h.num]
  funext i
  exact (BitVec.ofNat_add k 1).symm

theorem at_all : ∀ k, At m c k
  | 0 => at_zero m c
  | k + 1 => at_succ m c k (at_all k)

/-- Box `i` overlaps box `j`, in the order of their scores. -/
def OverRef (i j : ℕ) : Prop := Over (boxes m c i) (boxes m c j)

/-- The loop keeps box `j` where the greedy rule does. -/
theorem kept (j : Fin 20000) : (atK m 20000 c (Proc.devRef .tc main_v26_5) : IVec S20000 1) (ValueIdx.ix1 j) = 1#1 ↔ Keep (OverRef m c) j.val := by
  have h := keep_of_loop (OverRef m c) 20000
    (fun k i => ∃ hi : i < 20000, (atK m k c (Proc.devRef .tc main_v26_5) : IVec S20000 1) (ValueIdx.ix1 ⟨i, hi⟩) = 1#1)
    (fun i hi => ⟨hi, congrFun (entry_v26_5 m c) _⟩) ?_ j.val j.isLt
  · exact Iff.trans ⟨fun e => ⟨j.isLt, e⟩, fun ⟨_, e⟩ => e⟩ h
  · intro k hk i hi
    have a := at_all m c k
    have s := keep_step (atK m k c) ⟨k, hk⟩ a.num a.area a.pos ⟨i, hi⟩
    rw [a.box, a.box] at s
    have e5 := (next m c k main_v26_5 (by simp)).trans (STEP_main_v26_5 _)
    refine Iff.trans ⟨fun ⟨_, e⟩ => (congrFun e5 _).symm.trans e, fun e => ⟨hi, (congrFun e5 _).trans e⟩⟩ (s.trans ?_)
    exact and_congr ⟨fun e => ⟨hi, e⟩, fun ⟨_, e⟩ => e⟩ (not_congr (and_congr Iff.rfl (and_congr Iff.rfl ⟨fun e => ⟨hk, e⟩, fun ⟨_, e⟩ => e⟩)))

/-- A box's score. -/
def score (n : Fin 20000) : EReal := (m ((c.tc : Thread nD τ).loc main_arg1) : FVec Ideal S20000 .f32) (ValueIdx.ix1 n)

/-- The reference's result: a box's score if the box is kept, else zero times it. -/
theorem result_at (r : Fin 20000) :
    (final m c main_v37 : FVec Ideal S20000 .f32) (ValueIdx.ix1 (order m c r))
      = score m c (order m c r) * ind (Keep (OverRef m c) r.val) := by
  have hinj := order_injective m c
  unfold final
  rw [final_eq, final_v37, loopEnd_fixed m c main_arg1 (by simp), loopEnd_fixed m c main_v1 (by simp), entry_arg1, entry_v1]
  have hk : (loopEnd m c (Proc.devRef .tc main_v26_5) : IVec S20000 1) = atK m 20000 c (Proc.devRef .tc main_v26_5) := cond_keeps _ _ (by simp)
  rw [hk]
  have hsc := (Routing.scatter_set scatter_S20000_S20000x1_S20000_n_0_0_1 rfl rfl rfl (broadcastInDim S20000 ![] bcast_S_S20000 (constantI S_ 1 0#1)) (rowsCol (rows m c))
    (atK m 20000 c (Proc.devRef .tc main_v26_5) : IVec S20000 1) (fun i => if h : i < 20000 then (order m c ⟨i, h⟩).val else 0)
    (fun i => (rowsCol_at m c i).trans (by rw [dif_pos i.isLt])) (fun i => by rw [dif_pos i.isLt]; have := (order m c ⟨i.val, i.isLt⟩).isLt; omega) (order m c r)
    ((atK m 20000 c (Proc.devRef .tc main_v26_5) : IVec S20000 1) (ValueIdx.ix1 r))
    (fun i hi => by
      rw [dif_pos i.isLt] at hi
      have e : i = r := hinj (Fin.ext hi)
      rw [e])).1 ⟨r, by rw [dif_pos r.isLt]⟩
  refine congrArg (fun x : EReal => score m c (order m c r) * x) ?_
  refine (congrArg (fun b : BitVec 1 => Scalar.select b (Ideal.ofBits .f32 0x3F800000#32) (Ideal.ofBits .f32 0x00000000#32)) hsc).trans ?_
  have hkept := kept m c r
  by_cases h : Keep (OverRef m c) r.val
  · rw [hkept.2 h, ind_pos h]
    exact Ideal.ofBits_one_f32
  · have hz : ∀ b : BitVec 1, b ≠ 1#1 → b = 0#1 := by decide
    rw [hz _ (fun e => h (hkept.1 e)), ind_neg h]
    exact Ideal.ofBits_zero_f32

end Ideal

end Cert.Proof.Ref
-- ==== Proof.Agree.lean ====
/-
  The kernel and the reference end with the same result, when they start from the same boxes and scores.
-/
module

public import proofs.«01_k».proof.Proof.KernelVals
public import proofs.«01_k».proof.Proof.RefVals

@[expose] public section

set_option maxRecDepth 4096

noncomputable section

namespace Cert.Proof

open Cert.Proof.Nms (Over ind)
open Idealize.ShloMosaic Idealize.ShloMosaic.TcCoe

/-- The kernel's memory. -/
abbrev KMem : Type := (ℓ : Loc Cert.KernelIdeal.nD Cert.KernelIdeal.τ Cert.KernelIdeal.sig) → Buf (Elt Ideal) ℓ
/-- The reference's memory. -/
abbrev RMem : Type := (ℓ : Loc Cert.ReferenceIdeal.nD Cert.ReferenceIdeal.τ Cert.ReferenceIdeal.sig) → Buf (Elt Ideal) ℓ

variable (m : KMem) (m' : RMem) (c : Dev Cert.KernelIdeal.nD)

/-- The order of the boxes, of the scores alone. -/
def orderBy (x : FVec Ideal Cert.KernelIdeal.S20000 .f32) : Fin 20000 → Fin 20000 := orderOf Cert.KernelIdeal.comparator_f32_i32_d0 (Host.negf x)

/-- The boxes in order, of the boxes and the scores alone. -/
def boxesBy (b : FVec Ideal Cert.KernelIdeal.S20000x4 .f32) (x : FVec Ideal Cert.KernelIdeal.S20000 .f32) (i : ℕ) : Fin 4 → EReal :=
  if h : i < 20000 then fun a => b (ValueIdx.ix2 (orderBy x ⟨i, h⟩) a) else fun _ => 0

/-- The result's entry of a box, of the boxes and the scores alone. -/
def resultBy (b : FVec Ideal Cert.KernelIdeal.S20000x4 .f32) (x : FVec Ideal Cert.KernelIdeal.S20000 .f32) (r : Fin 20000) : EReal :=
  (fun s : EReal => s * ind (Keep (fun i j => Over (boxesBy b x i) (boxesBy b x j)) r.val)) (x (ValueIdx.ix1 (orderBy x r)))

/-- The kernel's boxes and scores. -/
abbrev kb : FVec Ideal Cert.KernelIdeal.S20000x4 .f32 := m (c.tc.loc Cert.KernelIdeal.main_arg0)
abbrev ks : FVec Ideal Cert.KernelIdeal.S20000 .f32 := m (c.tc.loc Cert.KernelIdeal.main_arg1)
/-- The reference's boxes and scores. -/
abbrev rb : FVec Ideal Cert.KernelIdeal.S20000x4 .f32 := m' ((c.tc : Thread Cert.ReferenceIdeal.nD Cert.ReferenceIdeal.τ).loc Cert.ReferenceIdeal.main_arg0)
abbrev rs : FVec Ideal Cert.KernelIdeal.S20000 .f32 := m' ((c.tc : Thread Cert.ReferenceIdeal.nD Cert.ReferenceIdeal.τ).loc Cert.ReferenceIdeal.main_arg1)

theorem kernel_by (hl : ∀ d, ListOK (Cert.Proof.ix1 m d)) (r : Fin 20000) :
    (V4 m hl c Cert.KernelIdeal.main_v34 : FVec Ideal Cert.KernelIdeal.S20000 .f32) (ValueIdx.ix1 (orderBy (ks m c) r)) = resultBy (kb m c) (ks m c) r :=
  kernel_at m c hl r

theorem comparator_same : Cert.ReferenceIdeal.comparator_f32_i32_d0 (F := Ideal) = Cert.KernelIdeal.comparator_f32_i32_d0 (F := Ideal) := rfl

theorem order_by : Ref.order m' c = orderBy (rs m' c) :=
  congrArg (fun cmp => orderOf (n := 20000) cmp (Host.negf (rs m' c))) comparator_same

theorem reference_by (r : Fin 20000) :
    (Ref.final m' c Cert.ReferenceIdeal.main_v37 : FVec Ideal Cert.KernelIdeal.S20000 .f32)
      (ValueIdx.ix1 (orderBy (rs m' c) r)) = resultBy (rb m' c) (rs m' c) r :=
  Ref.result_at m' c r

/-- Started from the same boxes and scores, the two results are equal. -/
theorem results_equal (hl : ∀ d, ListOK (Cert.Proof.ix1 m d)) (hb : rb m' c = kb m c) (hs : rs m' c = ks m c) :
    (Ref.final m' c Cert.ReferenceIdeal.main_v37 : FVec Ideal Cert.KernelIdeal.S20000 .f32) = V4 m hl c Cert.KernelIdeal.main_v34 := by
  funext x
  obtain ⟨n, rfl⟩ : ∃ n : Fin 20000, x = ValueIdx.ix1 n := ⟨x 0, ValueIdx.eq_ix1 x⟩
  obtain ⟨r, rfl⟩ := orderOf_surjective Cert.KernelIdeal.comparator_f32_i32_d0 (Host.negf (ks m c)) n
  have h := reference_by m' c r
  rw [hb, hs] at h
  exact h.trans (kernel_by m c hl r).symm

end Cert.Proof
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The row list is good on every device. -/
theorem listsOK (m : KMem) : ∀ d, ListOK (Cert.Proof.ix1 m d) := fun d => listOK m d

/-- The kernel runs, ends with the result and the arguments above, and leaves every semaphore at zero. -/
theorem kernel_runs (m : KMem) (g : Dev Cert.KernelIdeal.nD → PrngReg) :
    θ_run (Cert.KernelIdeal.defs (F := Ideal)) (Cert.KernelIdeal.threads (F := Ideal)) ⟨m, fun _ => 0, g⟩ (fun r =>
      (∀ c : Dev Cert.KernelIdeal.nD,
        r.2.mem ((c.tc : Thread Cert.KernelIdeal.nD Cert.KernelIdeal.τ).loc Cert.KernelIdeal.main_v34) = V4 m (listsOK m) c Cert.KernelIdeal.main_v34
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨h.1 c _ (mem_uc Cert.KernelIdeal.main_v34 rfl), (h.1 c _ (mem_uc Cert.KernelIdeal.main_arg0 rfl)).trans (V4_arg m c (listsOK m) _ (.inl rfl)),
      (h.1 c _ (mem_uc Cert.KernelIdeal.main_arg1 rfl)).trans (V4_arg m c (listsOK m) _ (.inr rfl))⟩, h.2⟩)
    (run_main m g (listsOK m) fun d => Nms.rests _ _ _ _)

/-- The reference runs, ends with its result and its arguments unchanged, and has no semaphore. -/
theorem reference_runs (m : RMem) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v37) = Ref.final m c Cert.ReferenceIdeal.main_v37
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨h c _ rfl, (h c _ rfl).trans (Ref.final_args m c _ (.inl rfl)), (h c _ rfl).trans (Ref.final_args m c _ (.inr rfl))⟩,
      funext fun s => by rcases s.2 with s | s <;> exact s.elim0⟩)
    (Cert.ReferenceIdeal.Value.run_fold m g)

/-- The claim: both programs run and come to rest, and end with equal results. -/
theorem claim : Cert.Claim := ⟨Cert.KernelIdeal.Gen.facts, Cert.ReferenceIdeal.Gen.facts,
  fun m g _ => (θ_run Cert.KernelIdeal.defs _ _).mono (fun r h => ⟨fun c => (h.1 c).2, h.2⟩) (kernel_runs m g),
  fun m g _ => (θ_run Cert.ReferenceIdeal.defs _ _).mono (fun r h => ⟨fun c => (h.1 c).2, h.2⟩) (reference_runs m g),
  fun m g m' g' _ hagree => ⟨fun c => V4 m (listsOK m) c Cert.KernelIdeal.main_v34,
    (θ_run Cert.KernelIdeal.defs _ _).mono (fun r h => h.1) (kernel_runs m g),
    (θ_run Cert.ReferenceIdeal.defs _ _).mono
      (fun r h c => ⟨(h.1 c).1.trans (results_equal m m' c (listsOK m) (hagree c).1 (hagree c).2), (h.1 c).2⟩) (reference_runs m' g')⟩⟩

end Cert.Proof

end
